-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_y_is_class [hPre_y_is_class : Cert.Pre_y_is_class.Facts] (m : (ℓ : Loc Cert.KernelIdeal.nD Cert.KernelIdeal.τ Cert.KernelIdeal.sig) → Buf (Elt Ideal) ℓ) : Prop :=
  ∀ c : Dev Cert.KernelIdeal.nD,
    (Cert.Pre_y_is_class.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_y_is_class [hPre_y_is_class : Cert.Pre_y_is_class.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_y_is_class.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_y_is_class [hKernelIdeal : Cert.KernelIdeal.Facts] [hPre_y_is_class : Cert.Pre_y_is_class.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_y_is_class m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_y_is_class [hReferenceIdeal : Cert.ReferenceIdeal.Facts] [hPre_y_is_class : Cert.Pre_y_is_class.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_y_is_class m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_y_is_class [hKernelIdeal : Cert.KernelIdeal.Facts] [hReferenceIdeal : Cert.ReferenceIdeal.Facts] [hPre_y_is_class : Cert.Pre_y_is_class.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_y_is_class m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)) (v3 : (c : Dev Cert.KernelIdeal.nD) → Buf (Elt Ideal) ((c.tc : Thread Cert.KernelIdeal.nD Cert.KernelIdeal.τ).loc Cert.KernelIdeal.main_v71_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_v71_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_y_is_class : Cert.Pre_y_is_class.Facts),
    quiescent_Kernel (hKernel := hKernel)
    ∧ quiescent_KernelIdeal (hKernelIdeal := hKernelIdeal)
    ∧ quiescent_KernelIdeal_pre_y_is_class (hKernelIdeal := hKernelIdeal) (hPre_y_is_class := hPre_y_is_class)
    ∧ quiescent_ReferenceIdeal (hReferenceIdeal := hReferenceIdeal)
    ∧ quiescent_ReferenceIdeal_pre_y_is_class (hReferenceIdeal := hReferenceIdeal) (hPre_y_is_class := hPre_y_is_class)
    ∧ preserves_Kernel_KernelIdeal
    ∧ algebraic_KernelIdeal_ReferenceIdeal_pre_y_is_class (hKernelIdeal := hKernelIdeal) (hReferenceIdeal := hReferenceIdeal) (hPre_y_is_class := hPre_y_is_class)
-- ==== Pre_y_is_class.lean ====
abbrev S16384x512 : Shape := ⟨2, ![16384, 512]⟩
abbrev S16384 : Shape := ⟨1, ![16384]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S1024x64 : Shape := ⟨2, ![1024, 64]⟩
abbrev S64x512 : Shape := ⟨2, ![64, 512]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384x512 .f32) (main_arg1 : IVec S16384 32) (main_arg2 : FVec F S512x1024 .f32) (main_arg3 : FVec F S1024 .f32) (main_arg4 : FVec F S1024x512 .f32) (main_arg5 : FVec F S512 .f32) (main_arg6 : FVec F S512x64 .f32) (main_arg7 : FVec F S64 .f32) (main_arg8 : FVec F S1024x64 .f32) (main_arg9 : FVec F S64x512 .f32) (main_arg10 : FVec F S512 .f32) (main_arg11 : FVec F S512x1024 .f32) (main_arg12 : FVec F S1024 .f32) (main_arg13 : FVec F S1024x512 .f32) (main_arg14 : FVec F S512 .f32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1024#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== Kernel.lean ====
abbrev S16384x512 : Shape := ⟨2, ![16384, 512]⟩
abbrev S16384 : Shape := ⟨1, ![16384]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S1024x64 : Shape := ⟨2, ![1024, 64]⟩
abbrev S64x512 : Shape := ⟨2, ![64, 512]⟩
abbrev S16384x1024 : Shape := ⟨2, ![16384, 1024]⟩
abbrev S1x1024 : Shape := ⟨2, ![1, 1024]⟩
abbrev S_ : Shape := ⟨0, ![]⟩
abbrev S1x512 : Shape := ⟨2, ![1, 512]⟩
abbrev S16384x64 : Shape := ⟨2, ![16384, 64]⟩
abbrev S1x64 : Shape := ⟨2, ![1, 64]⟩
abbrev S16384x8 : Shape := ⟨2, ![16384, 8]⟩
abbrev S16384x4 : Shape := ⟨2, ![16384, 4]⟩
abbrev S16384x2 : Shape := ⟨2, ![16384, 2]⟩
abbrev S16384x1 : Shape := ⟨2, ![16384, 1]⟩
abbrev S1024x8 : Shape := ⟨2, ![1024, 8]⟩
abbrev S1024x4 : Shape := ⟨2, ![1024, 4]⟩
abbrev S1024x2 : Shape := ⟨2, ![1024, 2]⟩
abbrev S1024x1 : Shape := ⟨2, ![1024, 1]⟩
abbrev S64x1024 : Shape := ⟨2, ![64, 1024]⟩
abbrev S1x1 : Shape := ⟨2, ![1, 1]⟩
abbrev S512x1 : Shape := ⟨2, ![512, 1]⟩
abbrev S512x512 : Shape := ⟨2, ![512, 512]⟩
abbrev S2 : Shape := ⟨1, ![2]⟩
abbrev S1 : Shape := ⟨1, ![1]⟩
abbrev S1x512x64 : Shape := ⟨3, ![1, 512, 64]⟩
abbrev S1x1x1 : Shape := ⟨3, ![1, 1, 1]⟩
abbrev S1x1x1024 : Shape := ⟨3, ![1, 1, 1024]⟩

abbrev nBuf : Space → Nat
  | .hbm => 94
  | .vmem => 22
  | .smem => 1
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S512x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S1024x64, .f32⟩
  | .hbm, ⟨9, _⟩ => ⟨S64x512, .f32⟩
  | .hbm, ⟨10, _⟩ => ⟨S512, .f32⟩
  | .hbm, ⟨11, _⟩ => ⟨S512x1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x512, .f32⟩
  | .hbm, ⟨23, _⟩ => ⟨S1x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x64, .f32⟩
  | .hbm, ⟨30, _⟩ => ⟨S1x64, .f32⟩
  | .hbm, ⟨31, _⟩ => ⟨S16384x64, .f32⟩
  | .hbm, ⟨32, _⟩ => ⟨S16384x64, .f32⟩
  | .hbm, ⟨33, _⟩ => ⟨S16384x64, .f32⟩
  | .hbm, ⟨34, _⟩ => ⟨S16384x8, .f32⟩
  | .hbm, ⟨35, _⟩ => ⟨S16384x8, .f32⟩
  | .hbm, ⟨36, _⟩ => ⟨S16384x8, .f32⟩
  | .hbm, ⟨37, _⟩ => ⟨S16384x8, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S16384x8, .f32⟩
  | .hbm, ⟨44, _⟩ => ⟨S16384x8, .f32⟩
  | .hbm, ⟨45, _⟩ => ⟨S16384x8, .f32⟩
  | .hbm, ⟨46, _⟩ => ⟨S16384x8, .f32⟩
  | .hbm, ⟨47, _⟩ => ⟨S16384x8, .f32⟩
  | .hbm, ⟨48, _⟩ => ⟨S16384x8, .f32⟩
  | .hbm, ⟨49, _⟩ => ⟨S16384x4, .f32⟩
  | .hbm, ⟨50, _⟩ => ⟨S16384x4, .f32⟩
  | .hbm, ⟨51, _⟩ => ⟨S16384x4, .f32⟩
  | .hbm, ⟨52, _⟩ => ⟨S16384x2, .f32⟩
  | .hbm, ⟨53, _⟩ => ⟨S16384x2, .f32⟩
  | .hbm, ⟨54, _⟩ => ⟨S16384x2, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S1024x64, .f32⟩
  | .hbm, ⟨59, _⟩ => ⟨S1024x8, .f32⟩
  | .hbm, ⟨60, _⟩ => ⟨S1024x8, .f32⟩
  | .hbm, ⟨61, _⟩ => ⟨S1024x8, .f32⟩
  | .hbm, ⟨62, _⟩ => ⟨S1024x8, .f32⟩
  | .hbm, ⟨63, _⟩ => ⟨S1024x8, .f32⟩
  | .hbm, ⟨64, _⟩ => ⟨S1024x8, .f32⟩
  | .hbm, ⟨65, _⟩ => ⟨S1024x8, .f32⟩
  | .hbm, ⟨66, _⟩ => ⟨S1024x8, .f32⟩
  | .hbm, ⟨67, _⟩ => ⟨S1024x8, .f32⟩
  | .hbm, ⟨68, _⟩ => ⟨S1024x8, .f32⟩
  | .hbm, ⟨69, _⟩ => ⟨S1024x8, .f32⟩
  | .hbm, ⟨70, _⟩ => ⟨S1024x8, .f32⟩
  | .hbm, ⟨71, _⟩ => ⟨S1024x8, .f32⟩
  | .hbm, ⟨72, _⟩ => ⟨S1024x8, .f32⟩
  | .hbm, ⟨73, _⟩ => ⟨S1024x8, .f32⟩
  | .hbm, ⟨74, _⟩ => ⟨S1024x4, .f32⟩
  | .hbm, ⟨75, _⟩ => ⟨S1024x4, .f32⟩
  | .hbm, ⟨76, _⟩ => ⟨S1024x4, .f32⟩
  | .hbm, ⟨77, _⟩ => ⟨S1024x2, .f32⟩
  | .hbm, ⟨78, _⟩ => ⟨S1024x2, .f32⟩
  | .hbm, ⟨79, _⟩ => ⟨S1024x2, .f32⟩
  | .hbm, ⟨80, _⟩ => ⟨S1024x1, .f32⟩
  | .hbm, ⟨81, _⟩ => ⟨S1024x1, .f32⟩
  | .hbm, ⟨82, _⟩ => ⟨S1024x1, .f32⟩
  | .hbm, ⟨83, _⟩ => ⟨S1x1024, .f32⟩
  | .hbm, ⟨84, _⟩ => ⟨S64x1024, .f32⟩
  | .hbm, ⟨85, _⟩ => ⟨S64x1024, .bf16⟩
  | .hbm, ⟨86, _⟩ => ⟨S64x1024, .f32⟩
  | .hbm, ⟨87, _⟩ => ⟨S1x512, .f32⟩
  | .hbm, ⟨88, _⟩ => ⟨S1x1024, .f32⟩
  | .hbm, ⟨89, _⟩ => ⟨S1x512, .f32⟩
  | .hbm, ⟨90, _⟩ => ⟨S1x1, .f32⟩
  | .hbm, ⟨91, _⟩ => ⟨S16384x512, .f32⟩
  | .hbm, ⟨92, _⟩ => ⟨S1x1, .f32⟩
  | .hbm, ⟨93, _⟩ => ⟨S16384, .i32⟩
  | .local _ .vmem, ⟨0, _⟩ => ⟨S512x64, .f32⟩
  | .local _ .vmem, ⟨1, _⟩ => ⟨S512x64, .f32⟩
  | .local _ .vmem, ⟨2, _⟩ => ⟨S512x1, .f32⟩
  | .local _ .vmem, ⟨3, _⟩ => ⟨S512x1, .f32⟩
  | .local _ .vmem, ⟨4, _⟩ => ⟨S512, .i32⟩
  | .local _ .vmem, ⟨5, _⟩ => ⟨S512, .i32⟩
  | .local _ .vmem, ⟨6, _⟩ => ⟨S1x1024, .f32⟩
  | .local _ .vmem, ⟨7, _⟩ => ⟨S64x1024, .f32⟩
  | .local _ .vmem, ⟨8, _⟩ => ⟨S1024x64, .f32⟩
  | .local _ .vmem, ⟨9, _⟩ => ⟨S64x512, .f32⟩
  | .local _ .vmem, ⟨10, _⟩ => ⟨S1x512, .f32⟩
  | .local _ .vmem, ⟨11, _⟩ => ⟨S512x1024, .f32⟩
  | .local _ .vmem, ⟨12, _⟩ => ⟨S1x1024, .f32⟩
  | .local _ .vmem, ⟨13, _⟩ => ⟨S1024x512, .f32⟩
  | .local _ .vmem, ⟨14, _⟩ => ⟨S1x512, .f32⟩
  | .local _ .vmem, ⟨15, _⟩ => ⟨S1x1, .f32⟩
  | .local _ .vmem, ⟨16, _⟩ => ⟨S512x512, .f32⟩
  | .local _ .vmem, ⟨17, _⟩ => ⟨S512x512, .f32⟩
  | .local _ .vmem, ⟨18, _⟩ => ⟨S1x1, .f32⟩
  | .local _ .vmem, ⟨19, _⟩ => ⟨S512, .i32⟩
  | .local _ .vmem, ⟨20, _⟩ => ⟨S512, .i32⟩
  | .local _ .vmem, ⟨21, _⟩ => ⟨S1x1024, .f32⟩
  | .local _ .smem, ⟨0, _⟩ => ⟨S2, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71_0 : Ref sig .tc := ⟨.hbm, 90, rfl⟩
abbrev main_v71_1 : Ref sig .tc := ⟨.hbm, 91, rfl⟩
abbrev main_v71_2 : Ref sig .tc := ⟨.hbm, 92, rfl⟩
abbrev main_v71_3 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch1 : Ref sig .tc := ⟨.vmem, 21, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v92 : BitVec 1 := Scalar.cmpi .eq arg0 c31_i32
  let v93 : BitVec 32 := Scalar.extui v92
  let c0_i32_46 : BitVec 32 := 0#32
  let v94 : BitVec 1 := Scalar.cmpi .ne v93 c0_i32_46
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S16384x512 : Shape := ⟨2, ![16384, 512]⟩
abbrev S16384 : Shape := ⟨1, ![16384]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S1024x64 : Shape := ⟨2, ![1024, 64]⟩
abbrev S64x512 : Shape := ⟨2, ![64, 512]⟩
abbrev S16384x1024 : Shape := ⟨2, ![16384, 1024]⟩
abbrev S1x1024 : Shape := ⟨2, ![1, 1024]⟩
abbrev S_ : Shape := ⟨0, ![]⟩
abbrev S1x512 : Shape := ⟨2, ![1, 512]⟩
abbrev S16384x64 : Shape := ⟨2, ![16384, 64]⟩
abbrev S1x64 : Shape := ⟨2, ![1, 64]⟩
abbrev S16384x1 : Shape := ⟨2, ![16384, 1]⟩
abbrev S64x1024 : Shape := ⟨2, ![64, 1024]⟩
abbrev S1 : Shape := ⟨1, ![1]⟩
abbrev S1x1 : Shape := ⟨2, ![1, 1]⟩

abbrev nBuf : Space → Nat
  | .hbm => 177
  | .vmem => 0
  | .smem => 0
  | _ => 0

abbrev hbmTy0_0 (i : Nat) : BufTy := match i % 128 with
  | 0 => ⟨S16384x512, .f32⟩
  | 1 => ⟨S16384, .i32⟩
  | 2 => ⟨S512x1024, .f32⟩
  | 3 => ⟨S1024, .f32⟩
  | 4 => ⟨S1024x512, .f32⟩
  | 5 => ⟨S512, .f32⟩
  | 6 => ⟨S512x64, .f32⟩
  | 7 => ⟨S64, .f32⟩
  | 8 => ⟨S1024x64, .f32⟩
  | 9 => ⟨S64x512, .f32⟩
  | 10 => ⟨S512, .f32⟩
  | 11 => ⟨S512x1024, .f32⟩
  | 12 => ⟨S1024, .f32⟩
  | 13 => ⟨S1024x512, .f32⟩
  | 14 => ⟨S512, .f32⟩
  | 15 => ⟨S16384x1024, .f32⟩
  | 16 => ⟨S1x1024, .f32⟩
  | 17 => ⟨S16384x1024, .f32⟩
  | 18 => ⟨S16384x1024, .f32⟩
  | 19 => ⟨S_, .f32⟩
  | 20 => ⟨S16384x1024, .f32⟩
  | 21 => ⟨S16384x1024, .f32⟩
  | 22 => ⟨S16384x512, .f32⟩
  | 23 => ⟨S1x512, .f32⟩
  | 24 => ⟨S16384x512, .f32⟩
  | 25 => ⟨S16384x512, .f32⟩
  | 26 => ⟨S_, .f32⟩
  | 27 => ⟨S16384x512, .f32⟩
  | 28 => ⟨S16384x512, .f32⟩
  | 29 => ⟨S16384x64, .f32⟩
  | 30 => ⟨S1x64, .f32⟩
  | 31 => ⟨S16384x64, .f32⟩
  | 32 => ⟨S16384x64, .f32⟩
  | 33 => ⟨S16384x64, .f32⟩
  | 34 => ⟨S_, .f32⟩
  | 35 => ⟨S16384, .f32⟩
  | 36 => ⟨S16384x1, .f32⟩
  | 37 => ⟨S1024x64, .f32⟩
  | 38 => ⟨S_, .f32⟩
  | 39 => ⟨S1024, .f32⟩
  | 40 => ⟨S1x1024, .f32⟩
  | 41 => ⟨S16384x1024, .f32⟩
  | 42 => ⟨S16384x1024, .f32⟩
  | 43 => ⟨S16384x1024, .f32⟩
  | 44 => ⟨S64x1024, .f32⟩
  | 45 => ⟨S16384x1024, .f32⟩
  | 46 => ⟨S_, .f32⟩
  | 47 => ⟨S16384x1024, .f32⟩
  | 48 => ⟨S16384x1024, .f32⟩
  | 49 => ⟨S16384x1024, .f32⟩
  | 50 => ⟨S16384x1024, .i32⟩
  | 51 => ⟨S_, .f32⟩
  | 52 => ⟨S_, .i32⟩
  | 53 => ⟨S16384, .f32⟩
  | 54 => ⟨S16384, .i32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S1, .i32⟩
  | 64 => ⟨S_, .i32⟩
  | 65 => ⟨S16384x1, .i32⟩
  | 66 => ⟨S16384x1, .i1⟩
  | 67 => ⟨S1x1, .i32⟩
  | 68 => ⟨S16384x1, .i32⟩
  | 69 => ⟨S16384x1, .i1⟩
  | 70 => ⟨S16384x1, .i1⟩
  | 71 => ⟨S_, .i1⟩
  | 72 => ⟨S16384, .i1⟩
  | 73 => ⟨S16384x64, .f32⟩
  | 74 => ⟨S16384x64, .i1⟩
  | 75 => ⟨S_, .f32⟩
  | 76 => ⟨S16384x64, .f32⟩
  | 77 => ⟨S16384x64, .f32⟩
  | 78 => ⟨S16384x64, .f32⟩
  | 79 => ⟨S16384x64, .f32⟩
  | 80 => ⟨S_, .f32⟩
  | 81 => ⟨S_, .f32⟩
  | 82 => ⟨S_, .f32⟩
  | 83 => ⟨S_, .f32⟩
  | 84 => ⟨S16384x64, .f32⟩
  | 85 => ⟨S16384x64, .f32⟩
  | 86 => ⟨S_, .f32⟩
  | 87 => ⟨S_, .f32⟩
  | 88 => ⟨S_, .f32⟩
  | 89 => ⟨S_, .f32⟩
  | 90 => ⟨S_, .i32⟩
  | 91 => ⟨S16384, .i32⟩
  | 92 => ⟨S16384, .i1⟩
  | 93 => ⟨S_, .i32⟩
  | 94 => ⟨S16384, .i32⟩
  | 95 => ⟨S16384, .i32⟩
  | 96 => ⟨S16384, .i32⟩
  | 97 => ⟨S16384x1, .i32⟩
  | 98 => ⟨S1, .i32⟩
  | 99 => ⟨S_, .i32⟩
  | 100 => ⟨S16384x1, .i32⟩
  | 101 => ⟨S16384x1, .i1⟩
  | 102 => ⟨S1x1, .i32⟩
  | 103 => ⟨S16384x1, .i32⟩
  | 104 => ⟨S16384x1, .i1⟩
  | 105 => ⟨S16384x1, .i1⟩
  | 106 => ⟨S_, .i1⟩
  | 107 => ⟨S16384, .i1⟩
  | 108 => ⟨S16384x64, .f32⟩
  | 109 => ⟨S16384x64, .i1⟩
  | 110 => ⟨S_, .f32⟩
  | 111 => ⟨S16384x64, .f32⟩
  | 112 => ⟨S16384x64, .f32⟩
  | 113 => ⟨S16384x64, .f32⟩
  | 114 => ⟨S16384x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S16384x64, .f32⟩
  | 126 => ⟨S16384x64, .f32⟩
  | 127 => ⟨S_, .i32⟩
  | _ => ⟨S16384x512, .f32⟩

abbrev hbmTy0_1 (i : Nat) : BufTy := match i % 128 with
  | 0 => ⟨S1024, .i32⟩
  | 1 => ⟨S_, .i32⟩
  | 2 => ⟨S_, .i32⟩
  | 3 => ⟨S16384, .i32⟩
  | 4 => ⟨S16384, .i32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S_, .i32⟩
  | 14 => ⟨S16384, .i32⟩
  | 15 => ⟨S1024, .i32⟩
  | 16 => ⟨S1024, .f32⟩
  | 17 => ⟨S_, .f32⟩
  | 18 => ⟨S1024, .f32⟩
  | 19 => ⟨S1024, .f32⟩
  | 20 => ⟨S_, .f32⟩
  | 21 => ⟨S1024, .f32⟩
  | 22 => ⟨S1024, .f32⟩
  | 23 => ⟨S1024, .f32⟩
  | 24 => ⟨S1024, .f32⟩
  | 25 => ⟨S_, .f32⟩
  | 26 => ⟨S_, .f32⟩
  | 27 => ⟨S_, .f32⟩
  | 28 => ⟨S_, .f32⟩
  | 29 => ⟨S16384x512, .f32⟩
  | 30 => ⟨S1x512, .f32⟩
  | 31 => ⟨S16384x512, .f32⟩
  | 32 => ⟨S16384x512, .f32⟩
  | 33 => ⟨S_, .f32⟩
  | 34 => ⟨S16384x512, .f32⟩
  | 35 => ⟨S16384x512, .f32⟩
  | 36 => ⟨S16384x1024, .f32⟩
  | 37 => ⟨S1x1024, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S16384x512, .f32⟩
  | 44 => ⟨S1x512, .f32⟩
  | 45 => ⟨S16384x512, .f32⟩
  | 46 => ⟨S16384x512, .f32⟩
  | 47 => ⟨S1x1, .f32⟩
  | 48 => ⟨S1x1, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call2_v0 : Ref sig .tc := ⟨.hbm, 50, rfl⟩
abbrev main_call2_cst : Ref sig .tc := ⟨.hbm, 51, rfl⟩
abbrev main_call2_c : Ref sig .tc := ⟨.hbm, 52, rfl⟩
abbrev main_call2_v1_0 : Ref sig .tc := ⟨.hbm, 53, rfl⟩
abbrev main_v28 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_v14 : Ref sig .tc := ⟨.hbm, 74, rfl⟩
abbrev main_call3_cst : Ref sig .tc := ⟨.hbm, 75, rfl⟩
abbrev main_call3_v15 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_2 : Ref sig .tc := ⟨.hbm, 80, rfl⟩
abbrev main_v32 : Ref sig .tc := ⟨.hbm, 81, rfl⟩
abbrev main_cst_3 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_4 : Ref sig .tc := ⟨.hbm, 86, rfl⟩
abbrev main_v36 : Ref sig .tc := ⟨.hbm, 87, rfl⟩
abbrev main_cst_5 : Ref sig .tc := ⟨.hbm, 88, rfl⟩
abbrev main_v37 : Ref sig .tc := ⟨.hbm, 89, rfl⟩
abbrev main_call4_c : Ref sig .tc := ⟨.hbm, 90, rfl⟩
abbrev main_call4_v0 : Ref sig .tc := ⟨.hbm, 91, rfl⟩
abbrev main_call4_v1 : Ref sig .tc := ⟨.hbm, 92, rfl⟩
abbrev main_call4_c_0 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_c_1 : Ref sig .tc := ⟨.hbm, 98, rfl⟩
abbrev main_call4_c_2 : Ref sig .tc := ⟨.hbm, 99, rfl⟩
abbrev main_call4_v6 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_3 : Ref sig .tc := ⟨.hbm, 106, rfl⟩
abbrev main_call4_v12 : Ref sig .tc := ⟨.hbm, 107, rfl⟩
abbrev main_call4_v13 : Ref sig .tc := ⟨.hbm, 108, rfl⟩
abbrev main_call4_v14 : Ref sig .tc := ⟨.hbm, 109, rfl⟩
abbrev main_call4_cst : Ref sig .tc := ⟨.hbm, 110, rfl⟩
abbrev main_call4_v15 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_cst_6 : Ref sig .tc := ⟨.hbm, 115, rfl⟩
abbrev main_v41 : Ref sig .tc := ⟨.hbm, 116, rfl⟩
abbrev main_cst_7 : Ref sig .tc := ⟨.hbm, 117, rfl⟩
abbrev main_v42 : Ref sig .tc := ⟨.hbm, 118, rfl⟩
abbrev main_cst_8 : Ref sig .tc := ⟨.hbm, 119, rfl⟩
abbrev main_v43 : Ref sig .tc := ⟨.hbm, 120, rfl⟩
abbrev main_v44 : Ref sig .tc := ⟨.hbm, 121, rfl⟩
abbrev main_cst_9 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_c : Ref sig .tc := ⟨.hbm, 127, rfl⟩
abbrev main_v49 : Ref sig .tc := ⟨.hbm, 128, rfl⟩
abbrev main_c_10 : Ref sig .tc := ⟨.hbm, 129, rfl⟩
abbrev main_call5_v0 : Ref sig .tc := ⟨.hbm, 130, rfl⟩
abbrev main_call5_v1 : Ref sig .tc := ⟨.hbm, 131, rfl⟩
abbrev main_v50 : Ref sig .tc := ⟨.hbm, 132, rfl⟩
abbrev main_c_11 : Ref sig .tc := ⟨.hbm, 133, rfl⟩
abbrev main_v51 : Ref sig .tc := ⟨.hbm, 134, rfl⟩
abbrev main_v52 : Ref sig .tc := ⟨.hbm, 135, rfl⟩
abbrev main_c_12 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_c_13 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_cst_14 : Ref sig .tc := ⟨.hbm, 145, rfl⟩
abbrev main_v60 : Ref sig .tc := ⟨.hbm, 146, rfl⟩
abbrev main_v61 : Ref sig .tc := ⟨.hbm, 147, rfl⟩
abbrev main_cst_15 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_cst_16 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_call6_cst : Ref sig .tc := ⟨.hbm, 161, rfl⟩
abbrev main_call6_v0 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_call7_cst : Ref sig .tc := ⟨.hbm, 168, rfl⟩
abbrev main_call7_v0 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩

abbrev nD : Nat := 1
abbrev τ : Topo := Topo.v7x

variable {F : FTy → Type} [FloatOps F]
-- ==== Proof.Point.lean ====
/-
  What the kernel's body leaves at a grid point, as functions of the blocks it reads and of what the point before left: the
  block of the reconstruction, the block of choices, the two running sums, the running tally, and at the last point the loss
  and the perplexity.
-/
module

public import proofs.«01_k».proof.Proof.Gen.KernelIdeal.Frame
public import Idealize.ShloMosaic.Lib.Pipeline.ValueKit
public import Idealize.ShloMosaic.Lib.Pipeline.ReadBack
public import Idealize.ShloMosaic.Lib.Writes
public import Idealize.ShloMosaic.Lib.ValueIdx

@[expose] public section

set_option maxRecDepth 16384

noncomputable section

namespace Cert.KernelIdeal.Point

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-! ## Two cells -/

/-- The two cells `a` and `b`. -/
def pair (a b : Elt F .f32) : Vec F S2 .f32 := fun i => if (i 0).val = 0 then a else b

/-- The first cell. -/
theorem pair_zero (a b : Elt F .f32) : pair a b (ix1 0) = a := rfl
/-- The second cell. -/
theorem pair_one (a b : Elt F .f32) : pair a b (ix1 1) = b := rfl

/-- A store into the second cell over a store into the first leaves the two cells, whatever was there before. -/
theorem canon_pair (a b : Elt F .f32) (L : List (View.Piece (Elt F) S2 .f32)) :
    View.canon (⟨Rect.unit ![1] ![1] inb_S2_S1_1, fun _ => b⟩ :: ⟨Rect.unit ![0] ![1] inb_S2_S1_0, fun _ => a⟩ :: L) = pair a b := by
  funext i
  have hi : (i 0).val < 2 := (i 0).isLt
  rcases (by omega : (i 0).val = 0 ∨ (i 0).val = 1) with h | h
  · rw [View.canon_cons_of_not_mem _ _ (Rect.not_mem_set_of_axis _ _ (0 : Fin 1) 1 1 rfl rfl rfl (.inl (by omega)))]
    have e : (Rect.unit (s := S2) ![0] ![1] inb_S2_S1_0).emb (Shape.Idx.first (by decide)) = i := by
      refine Rect.emb_eq_of_coords _ _ _ fun a => ?_
      fin_cases a
      simpa using h
    rw [← e, View.canon_cons_emb, e]
    simp only [pair, h, if_true]
  · have e : (Rect.unit (s := S2) ![1] ![1] inb_S2_S1_1).emb (Shape.Idx.first (by decide)) = i := by
      refine Rect.emb_eq_of_coords _ _ _ fun a => ?_
      fin_cases a
      simpa using h
    rw [← e, View.canon_cons_emb, e]
    simp only [pair, h, one_ne_zero, if_false]

omit [FloatOps F] in
/-- A read of the first cell alone. -/
theorem ld_zero (s : Vec F S2 .f32) (x) : View.ld s (Rect.unit ![0] ![1] inb_S2_S1_0) x = s (ix1 0) := by
  refine View.ld_unit_apply_of s _ _ _ x _ fun a => ?_
  fin_cases a
  have h : (x 0).val < 1 := (x 0).isLt
  show (0 : Nat) = 0 + (x 0).val
  omega

omit [FloatOps F] in
/-- A read of the second cell alone. -/
theorem ld_one (s : Vec F S2 .f32) (x) : View.ld s (Rect.unit ![1] ![1] inb_S2_S1_1) x = s (ix1 1) := by
  refine View.ld_unit_apply_of s _ _ _ x _ fun a => ?_
  fin_cases a
  have h : (x 0).val < 1 := (x 0).isLt
  show (1 : Nat) = 1 + (x 0).val
  omega

/-! ## The blocks -/

/-- The choices at grid point `t`. -/
abbrev picks (c : Dev nD) (t : Fin cfg0.N) : IVec S512 32 := k0_pay6 (iblk m c 0 t) (iblk m c 4 t) (iblk m c 1 t) (iblk m c 3 t)
/-- The choices at grid point `t`, a row of zeros and a one each. -/
abbrev marks (c : Dev nD) (t : Fin cfg0.N) : FVec F S512x1024 .f32 :=
  k0_pay7 (iblk m c 0 t) (iblk m c 4 t) (iblk m c 1 t) (iblk m c 3 t)
/-- The codebook rows chosen at grid point `t`. -/
abbrev rows (c : Dev nD) (t : Fin cfg0.N) : FVec F S512x64 .f32 :=
  k0_pay8 (iblk m c 0 t) (iblk m c 4 t) (iblk m c 1 t) (iblk m c 3 t) (iblk m c 5 t)
/-- The first running sum after grid point `t`, from `s` before it. -/
abbrev fit (c : Dev nD) (t : Fin cfg0.N) (s : Elt F .f32) : Elt F .f32 := k0_pay10 (k0_pay5 (iblk m c 0 t)) (rows m c t) s
/-- The second running sum after grid point `t`, from `s` before it. -/
abbrev sup (c : Dev nD) (t : Fin cfg0.N) (s : Elt F .f32) : Elt F .f32 :=
  k0_pay11 (k0_pay5 (iblk m c 0 t)) (iota .tc S512x1024 32 [1] iota_S512x1024_d1_w32) (iblk m c 5 t) (iblk m c 2 t) s

/-! ## What a point leaves -/

set_option maxHeartbeats 600000 in
/-- Every point leaves the reconstruction's block. -/
theorem recon_eq (c : Dev nD) (t : Fin cfg0.N) :
    (outsAt0 m c t.val t.isLt).2.1 =
      k0_pay1 (k0_pay13 (k0_pay5 (iblk m c 0 t)) (rows m c t) (iblk m c 6 t) (iblk m c 7 t)) k0_pay14 (iblk m c 8 t) (iblk m c 9 t)
        (iblk m c 10 t) (iblk m c 11 t) := by
  by_cases h0 : t.val % 32 = 0
  · rw [outsAt0_A m c t h0 (by omega)]
    frame_out
  by_cases h1 : t.val % 32 = 31
  · rw [outsAt0_C m c t h0 h1]
    frame_out
  · rw [outsAt0_B m c t h0 h1]
    frame_out

set_option maxHeartbeats 600000 in
/-- Every point leaves the choices' block. -/
theorem picks_eq (c : Dev nD) (t : Fin cfg0.N) : (outsAt0 m c t.val t.isLt).2.2.2.1 = picks m c t := by
  by_cases h0 : t.val % 32 = 0
  · rw [outsAt0_A m c t h0 (by omega)]
    frame_out
  by_cases h1 : t.val % 32 = 31
  · rw [outsAt0_C m c t h0 h1]
    frame_out
  · rw [outsAt0_B m c t h0 h1]
    frame_out

set_option maxHeartbeats 600000 in
/-- The first point starts the tally at zeros. -/
theorem tally_first (c : Dev nD) (t : Fin cfg0.N) (h0 : t.val % 32 = 0) :
    (outsAt0 m c t.val t.isLt).2.2.2.2.2 = k0_pay12 (marks m c t) k0_pay4 := by
  rw [outsAt0_A m c t h0 (by omega)]
  frame_out

set_option maxHeartbeats 600000 in
/-- Every later point adds to the tally of the point before. -/
theorem tally_next (c : Dev nD) (t : Fin cfg0.N) (h0 : ¬t.val % 32 = 0) :
    (outsAt0 m c t.val t.isLt).2.2.2.2.2 =
      k0_pay12 (marks m c t) (outsAt0 m c (t.val - 1) (Nat.lt_of_le_of_lt (Nat.sub_le _ _) t.isLt)).2.2.2.2.2 := by
  by_cases h1 : t.val % 32 = 31
  · rw [outsAt0_C m c t h0 h1]
    frame_out
    simp only [read_unread_whole]
  · rw [outsAt0_B m c t h0 h1]
    frame_out
    simp only [read_unread_whole]

set_option maxHeartbeats 600000 in
/-- The first point starts the two sums at zero. -/
theorem sums_first (c : Dev nD) (t : Fin cfg0.N) (h0 : t.val % 32 = 0) :
    (outsAt0 m c t.val t.isLt).2.2.2.2.1 = pair (fit m c t (Scalar.ofBits .f32 0#32)) (sup m c t (Scalar.ofBits .f32 0#32)) := by
  rw [outsAt0_A m c t h0 (by omega)]
  frame_out
  exact canon_pair (F := F) _ _ _

set_option maxHeartbeats 600000 in
/-- Every later point adds to the two sums of the point before. -/
theorem sums_next (c : Dev nD) (t : Fin cfg0.N) (h0 : ¬t.val % 32 = 0) :
    (outsAt0 m c t.val t.isLt).2.2.2.2.1 =
      pair (fit m c t ((outsAt0 m c (t.val - 1) (Nat.lt_of_le_of_lt (Nat.sub_le _ _) t.isLt)).2.2.2.2.1 (ix1 0)))
        (sup m c t ((outsAt0 m c (t.val - 1) (Nat.lt_of_le_of_lt (Nat.sub_le _ _) t.isLt)).2.2.2.2.1 (ix1 1))) := by
  by_cases h1 : t.val % 32 = 31
  · rw [outsAt0_C m c t h0 h1]
    frame_out
    simp only [read_unread_whole]
    erw [ld_zero (F := F), ld_one (F := F)]
    exact canon_pair (F := F) _ _ _
  · rw [outsAt0_B m c t h0 h1]
    frame_out
    simp only [read_unread_whole]
    erw [ld_zero (F := F), ld_one (F := F)]
    exact canon_pair (F := F) _ _ _

set_option maxHeartbeats 600000 in
/-- The last point leaves the loss of its two sums. -/
theorem loss_last (c : Dev nD) (t : Fin cfg0.N) (h1 : t.val % 32 = 31) :
    (outsAt0 m c t.val t.isLt).1 =
      k0_pay2 ((outsAt0 m c t.val t.isLt).2.2.2.2.1 (ix1 0)) ((outsAt0 m c t.val t.isLt).2.2.2.2.1 (ix1 1)) := by
  rw [sums_next m c t (by omega), pair_zero, pair_one, outsAt0_C m c t (by omega) h1]
  frame_out
  simp only [read_unread_whole]
  erw [ld_zero (F := F), ld_one (F := F)]

set_option maxHeartbeats 600000 in
/-- The last point leaves the perplexity of its tally. -/
theorem perp_last (c : Dev nD) (t : Fin cfg0.N) (h1 : t.val % 32 = 31) :
    (outsAt0 m c t.val t.isLt).2.2.1 = k0_pay3 (outsAt0 m c t.val t.isLt).2.2.2.2.2 := by
  rw [tally_next m c t (by omega), outsAt0_C m c t (by omega) h1]
  frame_out
  simp only [read_unread_whole]

end Cert.KernelIdeal.Point
end
-- ==== Proof.RefRun.lean ====
/-
  The reference run as a program of one line of array operations. The line is cut where the mathematics has a name: the
  encoder, the distances, the nearest row, the rows taken, the loss, the perplexity, the decoder. Each window is read once,
  as a function of the arrays that enter it, and `run` puts the windows together.
-/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 16384
set_option Elab.async false

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-! ## The mathematics, array by array -/

/-- The arrays of shape `S` with elements of type `e`. -/
abbrev Arr (F : FTy → Type) (S : Shape) (e : EltTy) : Type := (⟨S, e⟩ : BufTy).Contents (Elt F)

/-- The code vectors: two layers with a bias and a maximum with zero each, and a third with a bias alone. -/
def encode (x : Arr F S16384x512 .f32) (W1 : Arr F S512x1024 .f32) (b1 : Arr F S1024 .f32) (W2 : Arr F S1024x512 .f32)
    (b2 : Arr F S512 .f32) (W3 : Arr F S512x64 .f32) (b3 : Arr F S64 .f32) : Arr F S16384x64 .f32 :=
  let h1 : Arr F S16384x1024 .f32 := maximumf
    (addf (Host.dotGeneral dot_S16384x512_S512x1024_S16384x1024_1_0_0_1_n_n none x W1)
      (broadcastInDim S16384x1024 ![0, 1] bcast_S1x1024_S16384x1024_0_1 (broadcastInDim S1x1024 ![1] bcast_S1024_S1x1024_1 b1)))
    (broadcastInDim S16384x1024 ![] bcast_S_S16384x1024 (constant S_ .f32 0x00000000#32))
  let h2 : Arr F S16384x512 .f32 := maximumf
    (addf (Host.dotGeneral dot_S16384x1024_S1024x512_S16384x512_1_0_0_1_n_n none h1 W2)
      (broadcastInDim S16384x512 ![0, 1] bcast_S1x512_S16384x512_0_1 (broadcastInDim S1x512 ![1] bcast_S512_S1x512_1 b2)))
    (broadcastInDim S16384x512 ![] bcast_S_S16384x512 (constant S_ .f32 0x00000000#32))
  addf (Host.dotGeneral dot_S16384x512_S512x64_S16384x64_1_0_0_1_n_n none h2 W3)
    (broadcastInDim S16384x64 ![0, 1] bcast_S1x64_S16384x64_0_1 (broadcastInDim S1x64 ![1] bcast_S64_S1x64_1 b3))

/-- The squared distances of the code vectors from the codebook's rows, written out as squares less twice the product. -/
def distances (z : Arr F S16384x64 .f32) (E : Arr F S1024x64 .f32) : Arr F S16384x1024 .f32 :=
  subf
    (addf
      (broadcastInDim S16384x1024 ![0, 1] bcast_S16384x1_S16384x1024_0_1 (broadcastInDim S16384x1 ![0] bcast_S16384_S16384x1_0
        (Host.reduceAdd (mulf z z) (constant S_ .f32 0x00000000#32) reducesTo_S16384x64_S16384_d1 h_S_)))
      (broadcastInDim S16384x1024 ![0, 1] bcast_S1x1024_S16384x1024_0_1 (broadcastInDim S1x1024 ![1] bcast_S1024_S1x1024_1
        (Host.reduceAdd (mulf E E) (constant S_ .f32 0x00000000#32) reducesTo_S1024x64_S1024_d1 h_S_))))
    (mulf (broadcastInDim S16384x1024 ![] bcast_S_S16384x1024 (constant S_ .f32 0x40000000#32))
      (Host.dotGeneral dot_S16384x64_S64x1024_S16384x1024_1_0_0_1_n_n none z
        (transpose S64x1024 [1, 0] E transposes_S1024x64_S64x1024_1_0)))

/-- Where each row of `d` is least: the first such column. -/
def leastAt (d : Arr F S16384x1024 .f32) : Arr F S16384 .i32 := fun j =>
  (Host.argReduce reducer_argmin_f32_i32 d (iotaInDim S16384x1024 32 1) (constant S_ .f32 0x7F800000#32) (constantI S_ 32 0#32)
    reducesTo_S16384x1024_S16384_d1 h_S_ j).2

/-- An index with a negative one counted from the end, as one column. -/
def wrapped (i : Arr F S16384 .i32) : Arr F S16384x1 .i32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- The codebook's rows at the indices `i`, where they are in range. -/
def rowsAt (E : Arr F S1024x64 .f32) (i : Arr F S16384 .i32) : Arr F S16384x64 .f32 :=
  select
    (broadcastInDim S16384x64 ![0] bcast_S16384_S16384x64_0
      (Host.reduce IntOp.andi
        (andi (cmpi .sge (wrapped (F := F) i) (broadcastInDim S16384x1 ![] bcast_S_S16384x1 (constantI S_ 32 0#32)))
          (cmpi .sle (wrapped (F := F) i)
            (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_))
    (Host.gather gather_S1024x64_S16384x1_S16384x64_1_0_n_n_0_1_164 E (wrapped (F := F) i))
    (broadcastInDim S16384x64 ![] bcast_S_S16384x64 (constant S_ .f32 0x7FC00000#32))

/-- The mean of the squares of the entries of `u - v`. -/
def meanSq (u v : Arr F S16384x64 .f32) : Arr F S_ .f32 :=
  Host.divf (Host.reduceAdd (mulf (subf u v) (subf u v)) (constant S_ .f32 0x00000000#32) reducesTo_S16384x64_S_d0_1 h_S_)
    (constant S_ .f32 0x49800000#32)

/-- The loss: the mean square twice, the second time a quarter of it, and a tenth of the supervised one. -/
def weigh (a b e : Arr F S_ .f32) : Arr F S_ .f32 :=
  addf (addf a (mulf (constant S_ .f32 0x3E800000#32) b)) (mulf (constant S_ .f32 0x3DCCCCCD#32) e)

/-- How often each codebook row was chosen. -/
def counts (i : Arr F S16384 .i32) : Arr F S1024 .i32 :=
  Host.scatter scatter_S1024_S16384x1_S16384_n_0_0_1 IntOp.addi (broadcastInDim S1024 ![] bcast_S_S1024 (constantI S_ 32 0#32))
    (wrapped (F := F) (maxsi (broadcastInDim S16384 ![] bcast_S_S16384 (constantI S_ 32 0#32)) i))
    (broadcastInDim S16384 ![] bcast_S_S16384 (constantI S_ 32 1#32))

/-- The exponential of the entropy of the shares `n / 16384`. -/
def perplexity (n : Arr F S1024 .i32) : Arr F S_ .f32 :=
  let p : Arr F S1024 .f32 := Host.divf (sitofp .f32 n) (broadcastInDim S1024 ![] bcast_S_S1024 (constant S_ .f32 0x46800000#32))
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

/-- The reconstruction: two layers with a bias and a maximum with zero each, and a third with a bias alone. -/
def decode (q : Arr F S16384x64 .f32) (V1 : Arr F S64x512 .f32) (c1 : Arr F S512 .f32) (V2 : Arr F S512x1024 .f32)
    (c2 : Arr F S1024 .f32) (V3 : Arr F S1024x512 .f32) (c3 : Arr F S512 .f32) : Arr F S16384x512 .f32 :=
  let g1 : Arr F S16384x512 .f32 := maximumf
    (addf (Host.dotGeneral dot_S16384x64_S64x512_S16384x512_1_0_0_1_n_n none q V1)
      (broadcastInDim S16384x512 ![0, 1] bcast_S1x512_S16384x512_0_1 (broadcastInDim S1x512 ![1] bcast_S512_S1x512_1 c1)))
    (broadcastInDim S16384x512 ![] bcast_S_S16384x512 (constant S_ .f32 0x00000000#32))
  let g2 : Arr F S16384x1024 .f32 := maximumf
    (addf (Host.dotGeneral dot_S16384x512_S512x1024_S16384x1024_1_0_0_1_n_n none g1 V2)
      (broadcastInDim S16384x1024 ![0, 1] bcast_S1x1024_S16384x1024_0_1 (broadcastInDim S1x1024 ![1] bcast_S1024_S1x1024_1 c2)))
    (broadcastInDim S16384x1024 ![] bcast_S_S16384x1024 (constant S_ .f32 0x00000000#32))
  addf (Host.dotGeneral dot_S16384x1024_S1024x512_S16384x512_1_0_0_1_n_n none g2 V3)
    (broadcastInDim S16384x512 ![0, 1] bcast_S1x512_S16384x512_0_1 (broadcastInDim S1x512 ![1] bcast_S512_S1x512_1 c3))

/-! ## The windows of the line -/

/-- The operations of the encoder: the code vectors `z`. -/
abbrev encOps : List (HloOp τ sig (Elt F)) :=
  [ binary main_arg0 main_arg2 main_v0 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    unary main_arg3 main_v1 (broadcastInDim S1x1024 ![1] bcast_S1024_S1x1024_1 : (⟨S1024, .f32⟩ : BufTy).Contents (Elt F) → (⟨S1x1024, .f32⟩ : BufTy).Contents (Elt F)),
    unary main_v1 main_v2 (broadcastInDim S16384x1024 ![0, 1] bcast_S1x1024_S16384x1024_0_1 : (⟨S1x1024, .f32⟩ : BufTy).Contents (Elt F) → (⟨S16384x1024, .f32⟩ : BufTy).Contents (Elt F)),
    binary main_v0 main_v2 main_v3 (addf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x1024, .f32⟩) main_call0_v0) (broadcastInDim S16384x1024 ![] bcast_S_S16384x1024),
    TRef.binary (TRef.of (T := ⟨S16384x1024, .f32⟩) main_v3) (TRef.of (T := ⟨S16384x1024, .f32⟩) main_call0_v0) (TRef.of (T := ⟨S16384x1024, .f32⟩) main_v4) maximumf,
    binary main_v4 main_arg4 main_v5 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    unary main_arg5 main_v6 (broadcastInDim S1x512 ![1] bcast_S512_S1x512_1 : (⟨S512, .f32⟩ : BufTy).Contents (Elt F) → (⟨S1x512, .f32⟩ : BufTy).Contents (Elt F)),
    unary main_v6 main_v7 (broadcastInDim S16384x512 ![0, 1] bcast_S1x512_S16384x512_0_1 : (⟨S1x512, .f32⟩ : BufTy).Contents (Elt F) → (⟨S16384x512, .f32⟩ : BufTy).Contents (Elt F)),
    binary main_v5 main_v7 main_v8 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x512, .f32⟩) main_call1_v0) (broadcastInDim S16384x512 ![] bcast_S_S16384x512),
    TRef.binary (TRef.of (T := ⟨S16384x512, .f32⟩) main_v8) (TRef.of (T := ⟨S16384x512, .f32⟩) main_call1_v0) (TRef.of (T := ⟨S16384x512, .f32⟩) main_v9) maximumf,
    binary main_v9 main_arg6 main_v10 ((fun l r => Host.dotGeneral dot_S16384x512_S512x64_S16384x64_1_0_0_1_n_n none l r) : (⟨S16384x512, .f32⟩ : BufTy).Contents (Elt F) → (⟨S512x64, .f32⟩ : BufTy).Contents (Elt F) → (⟨S16384x64, .f32⟩ : BufTy).Contents (Elt F)),
    unary main_arg7 main_v11 (broadcastInDim S1x64 ![1] bcast_S64_S1x64_1 : (⟨S64, .f32⟩ : BufTy).Contents (Elt F) → (⟨S1x64, .f32⟩ : BufTy).Contents (Elt F)),
    unary main_v11 main_v12 (broadcastInDim S16384x64 ![0, 1] bcast_S1x64_S16384x64_0_1 : (⟨S1x64, .f32⟩ : BufTy).Contents (Elt F) → (⟨S16384x64, .f32⟩ : BufTy).Contents (Elt F)),
    binary main_v10 main_v12 main_v13 (addf : (⟨S16384x64, .f32⟩ : BufTy).Contents (Elt F) → (⟨S16384x64, .f32⟩ : BufTy).Contents (Elt F) → (⟨S16384x64, .f32⟩ : BufTy).Contents (Elt F)) ]

/-- The buffers that `encOps` writes. -/
abbrev encBufs : List (Ref sig .tc) :=
  [main_v0, main_v1, main_v2, main_v3, main_call0_cst, main_call0_v0, main_v4, main_v5, main_v6, main_v7, main_v8,
   main_call1_cst, main_call1_v0, main_v9, main_v10, main_v11, main_v12, main_v13]

/-- The operations of the distances of every code vector from every row of the codebook. -/
abbrev distOps : List (HloOp τ sig (Elt F)) :=
  [ binary main_v13 main_v13 main_v14 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v14 main_cst main_v15 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v15 main_v16 (broadcastInDim S16384x1 ![0] bcast_S16384_S16384x1_0 : (⟨S16384, .f32⟩ : BufTy).Contents (Elt F) → (⟨S16384x1, .f32⟩ : BufTy).Contents (Elt F)),
    binary main_arg8 main_arg8 main_v17 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v17 main_cst_0 main_v18 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v18 main_v19 (broadcastInDim S1x1024 ![1] bcast_S1024_S1x1024_1 : (⟨S1024, .f32⟩ : BufTy).Contents (Elt F) → (⟨S1x1024, .f32⟩ : BufTy).Contents (Elt F)),
    unary main_v16 main_v20 (broadcastInDim S16384x1024 ![0, 1] bcast_S16384x1_S16384x1024_0_1 : (⟨S16384x1, .f32⟩ : BufTy).Contents (Elt F) → (⟨S16384x1024, .f32⟩ : BufTy).Contents (Elt F)),
    unary main_v19 main_v21 (broadcastInDim S16384x1024 ![0, 1] bcast_S1x1024_S16384x1024_0_1 : (⟨S1x1024, .f32⟩ : BufTy).Contents (Elt F) → (⟨S16384x1024, .f32⟩ : BufTy).Contents (Elt F)),
    binary main_v20 main_v21 main_v22 (addf : (⟨S16384x1024, .f32⟩ : BufTy).Contents (Elt F) → (⟨S16384x1024, .f32⟩ : BufTy).Contents (Elt F) → (⟨S16384x1024, .f32⟩ : BufTy).Contents (Elt F)),
    unary main_arg8 main_v23 ((transpose S64x1024 [1, 0] · transposes_S1024x64_S64x1024_1_0) : (⟨S1024x64, .f32⟩ : BufTy).Contents (Elt F) → (⟨S64x1024, .f32⟩ : BufTy).Contents (Elt F)),
    binary main_v13 main_v23 main_v24 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_1 (constant S_ .f32 0x40000000#32),
    unary main_cst_1 main_v25 (broadcastInDim S16384x1024 ![] bcast_S_S16384x1024 : (⟨S_, .f32⟩ : BufTy).Contents (Elt F) → (⟨S16384x1024, .f32⟩ : BufTy).Contents (Elt F)),
    binary main_v25 main_v24 main_v26 (mulf : (⟨S16384x1024, .f32⟩ : BufTy).Contents (Elt F) → (⟨S16384x1024, .f32⟩ : BufTy).Contents (Elt F) → (⟨S16384x1024, .f32⟩ : BufTy).Contents (Elt F)),
    binary main_v22 main_v26 main_v27 (subf : (⟨S16384x1024, .f32⟩ : BufTy).Contents (Elt F) → (⟨S16384x1024, .f32⟩ : BufTy).Contents (Elt F) → (⟨S16384x1024, .f32⟩ : BufTy).Contents (Elt F)) ]

/-- The buffers that `distOps` writes. -/
abbrev distBufs : List (Ref sig .tc) :=
  [main_v14, main_cst, main_v15, main_v16, main_v17, main_cst_0, main_v18, main_v19, main_v20, main_v21, main_v22,
   main_v23, main_v24, main_cst_1, main_v25, main_v26, main_v27]

/-- The operations of the row of the codebook nearest to each code vector. -/
abbrev nearOps : List (HloOp τ sig (Elt F)) :=
  [ TRef.nullary (TRef.of (T := ⟨S16384x1024, .i32⟩) main_call2_v0) (iotaInDim S16384x1024 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16384x1024, .f32⟩) main_v27) (TRef.of (T := ⟨S16384x1024, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmin_f32_i32 x y u v reducesTo_S16384x1024_S16384_d1 h_S_ j).1),
    TRef.quaternary (TRef.of (T := ⟨S16384x1024, .f32⟩) main_v27) (TRef.of (T := ⟨S16384x1024, .i32⟩) main_call2_v0) (TRef.of (T := ⟨S_, .f32⟩) main_call2_cst) (TRef.of (T := ⟨S_, .i32⟩) main_call2_c) (TRef.of (T := ⟨S16384, .i32⟩) main_v28) (fun x y u v j => (Host.argReduce reducer_argmin_f32_i32 x y u v reducesTo_S16384x1024_S16384_d1 h_S_ j).2) ]

/-- The buffers that `nearOps` writes. -/
abbrev nearBufs : List (Ref sig .tc) :=
  [main_call2_v0, main_call2_cst, main_call2_c, main_call2_v1_0, main_v28]

/-- The operations of those rows of the codebook. -/
abbrev pickOps : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16384, .i32⟩) main_call3_v0) (broadcastInDim S16384 ![] bcast_S_S16384),
    TRef.binary (TRef.of (T := ⟨S16384, .i32⟩) main_v28) (TRef.of (T := ⟨S16384, .i32⟩) main_call3_v0) (TRef.of (T := ⟨S16384, .i1⟩) main_call3_v1) (cmpi .slt),
    TRef.nullary (TRef.of (T := ⟨S_, .i32⟩) main_call3_c_0) (constantI S_ 32 1024#32),
    TRef.unary (TRef.of (T := ⟨S_, .i32⟩) main_call3_c_0) (TRef.of (T := ⟨S16384, .i32⟩) main_call3_v2) (broadcastInDim S16384 ![] bcast_S_S16384),
    TRef.binary (TRef.of (T := ⟨S16384, .i32⟩) main_v28) (TRef.of (T := ⟨S16384, .i32⟩) main_call3_v2) (TRef.of (T := ⟨S16384, .i32⟩) main_call3_v3) addi,
    TRef.ternary (TRef.of (T := ⟨S16384, .i1⟩) main_call3_v1) (TRef.of (T := ⟨S16384, .i32⟩) main_call3_v3) (TRef.of (T := ⟨S16384, .i32⟩) main_v28) (TRef.of (T := ⟨S16384, .i32⟩) main_call3_v4) select,
    TRef.unary (TRef.of (T := ⟨S16384, .i32⟩) main_call3_v4) (TRef.of (T := ⟨S16384x1, .i32⟩) main_call3_v5) (broadcastInDim S16384x1 ![0] bcast_S16384_S16384x1_0),
    TRef.nullary (TRef.of (T := ⟨S1, .i32⟩) main_call3_c_1) (constantI S1 32 1023#32),
    TRef.nullary (TRef.of (T := ⟨S_, .i32⟩) main_call3_c_2) (constantI S_ 32 0#32),
    TRef.unary (TRef.of (T := ⟨S_, .i32⟩) main_call3_c_2) (TRef.of (T := ⟨S16384x1, .i32⟩) main_call3_v6) (broadcastInDim S16384x1 ![] bcast_S_S16384x1),
    TRef.binary (TRef.of (T := ⟨S16384x1, .i32⟩) main_call3_v5) (TRef.of (T := ⟨S16384x1, .i32⟩) main_call3_v6) (TRef.of (T := ⟨S16384x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S16384x1, .i32⟩) main_call3_v9) (broadcastInDim S16384x1 ![0, 1] bcast_S1x1_S16384x1_0_1),
    TRef.binary (TRef.of (T := ⟨S16384x1, .i32⟩) main_call3_v5) (TRef.of (T := ⟨S16384x1, .i32⟩) main_call3_v9) (TRef.of (T := ⟨S16384x1, .i1⟩) main_call3_v10) (cmpi .sle),
    TRef.binary (TRef.of (T := ⟨S16384x1, .i1⟩) main_call3_v7) (TRef.of (T := ⟨S16384x1, .i1⟩) main_call3_v10) (TRef.of (T := ⟨S16384x1, .i1⟩) main_call3_v11) andi,
    TRef.nullary (TRef.of (T := ⟨S_, .i1⟩) main_call3_c_3) (constantI S_ 1 1#1),
    TRef.binary (TRef.of (T := ⟨S16384x1, .i1⟩) main_call3_v11) (TRef.of (T := ⟨S_, .i1⟩) main_call3_c_3) (TRef.of (T := ⟨S16384, .i1⟩) main_call3_v12) (fun x v => Host.reduce IntOp.andi x v reducesTo_S16384x1_S16384_d1 h_S_),
    TRef.binary (TRef.of (T := ⟨S1024x64, .f32⟩) main_arg8) (TRef.of (T := ⟨S16384x1, .i32⟩) main_call3_v5) (TRef.of (T := ⟨S16384x64, .f32⟩) main_call3_v13) (fun x i => Host.gather gather_S1024x64_S16384x1_S16384x64_1_0_n_n_0_1_164 x i),
    TRef.unary (TRef.of (T := ⟨S16384, .i1⟩) main_call3_v12) (TRef.of (T := ⟨S16384x64, .i1⟩) main_call3_v14) (broadcastInDim S16384x64 ![0] bcast_S16384_S16384x64_0),
    TRef.nullary (TRef.of (T := ⟨S_, .f32⟩) main_call3_cst) (constant S_ .f32 0x7FC00000#32),
    TRef.unary (TRef.of (T := ⟨S_, .f32⟩) main_call3_cst) (TRef.of (T := ⟨S16384x64, .f32⟩) main_call3_v15) (broadcastInDim S16384x64 ![] bcast_S_S16384x64),
    TRef.ternary (TRef.of (T := ⟨S16384x64, .i1⟩) main_call3_v14) (TRef.of (T := ⟨S16384x64, .f32⟩) main_call3_v13) (TRef.of (T := ⟨S16384x64, .f32⟩) main_call3_v15) (TRef.of (T := ⟨S16384x64, .f32⟩) main_v29) select ]

/-- The buffers that `pickOps` writes. -/
abbrev pickBufs : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v29]

/-- The operations of the two means of the squares of the rows less the code vectors. -/
abbrev fitOps : List (HloOp τ sig (Elt F)) :=
  [ binary main_v29 main_v13 main_v30 (subf : (⟨S16384x64, .f32⟩ : BufTy).Contents (Elt F) → (⟨S16384x64, .f32⟩ : BufTy).Contents (Elt F) → (⟨S16384x64, .f32⟩ : BufTy).Contents (Elt F)),
    binary main_v30 main_v30 main_v31 (mulf : (⟨S16384x64, .f32⟩ : BufTy).Contents (Elt F) → (⟨S16384x64, .f32⟩ : BufTy).Contents (Elt F) → (⟨S16384x64, .f32⟩ : BufTy).Contents (Elt F)),
    nullary main_cst_2 (constant S_ .f32 0x00000000#32),
    binary main_v31 main_cst_2 main_v32 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_3 (constant S_ .f32 0x49800000#32),
    binary main_v32 main_cst_3 main_v33 (Host.divf : (⟨S_, .f32⟩ : BufTy).Contents (Elt F) → (⟨S_, .f32⟩ : BufTy).Contents (Elt F) → (⟨S_, .f32⟩ : BufTy).Contents (Elt F)),
    binary main_v29 main_v13 main_v34 (subf : (⟨S16384x64, .f32⟩ : BufTy).Contents (Elt F) → (⟨S16384x64, .f32⟩ : BufTy).Contents (Elt F) → (⟨S16384x64, .f32⟩ : BufTy).Contents (Elt F)),
    binary main_v34 main_v34 main_v35 (mulf : (⟨S16384x64, .f32⟩ : BufTy).Contents (Elt F) → (⟨S16384x64, .f32⟩ : BufTy).Contents (Elt F) → (⟨S16384x64, .f32⟩ : BufTy).Contents (Elt F)),
    nullary main_cst_4 (constant S_ .f32 0x00000000#32),
    binary main_v35 main_cst_4 main_v36 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_5 (constant S_ .f32 0x49800000#32),
    binary main_v36 main_cst_5 main_v37 (Host.divf : (⟨S_, .f32⟩ : BufTy).Contents (Elt F) → (⟨S_, .f32⟩ : BufTy).Contents (Elt F) → (⟨S_, .f32⟩ : BufTy).Contents (Elt F)) ]

/-- The buffers that `fitOps` writes. -/
abbrev fitBufs : List (Ref sig .tc) :=
  [main_v30, main_v31, main_cst_2, main_v32, main_cst_3, main_v33, main_v34, main_v35, main_cst_4, main_v36,
   main_cst_5, main_v37]

/-- The operations of the supervising classes' rows of the codebook. -/
abbrev clsOps : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S16384, .i32⟩) main_call4_v0) (broadcastInDim S16384 ![] bcast_S_S16384),
    TRef.binary (TRef.of (T := ⟨S16384, .i32⟩) main_arg1) (TRef.of (T := ⟨S16384, .i32⟩) main_call4_v0) (TRef.of (T := ⟨S16384, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S16384, .i32⟩) main_call4_v2) (broadcastInDim S16384 ![] bcast_S_S16384),
    TRef.binary (TRef.of (T := ⟨S16384, .i32⟩) main_arg1) (TRef.of (T := ⟨S16384, .i32⟩) main_call4_v2) (TRef.of (T := ⟨S16384, .i32⟩) main_call4_v3) addi,
    TRef.ternary (TRef.of (T := ⟨S16384, .i1⟩) main_call4_v1) (TRef.of (T := ⟨S16384, .i32⟩) main_call4_v3) (TRef.of (T := ⟨S16384, .i32⟩) main_arg1) (TRef.of (T := ⟨S16384, .i32⟩) main_call4_v4) select,
    TRef.unary (TRef.of (T := ⟨S16384, .i32⟩) main_call4_v4) (TRef.of (T := ⟨S16384x1, .i32⟩) main_call4_v5) (broadcastInDim S16384x1 ![0] bcast_S16384_S16384x1_0),
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S16384x1, .i32⟩) main_call4_v6) (broadcastInDim S16384x1 ![] bcast_S_S16384x1),
    TRef.binary (TRef.of (T := ⟨S16384x1, .i32⟩) main_call4_v5) (TRef.of (T := ⟨S16384x1, .i32⟩) main_call4_v6) (TRef.of (T := ⟨S16384x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S16384x1, .i32⟩) main_call4_v9) (broadcastInDim S16384x1 ![0, 1] bcast_S1x1_S16384x1_0_1),
    TRef.binary (TRef.of (T := ⟨S16384x1, .i32⟩) main_call4_v5) (TRef.of (T := ⟨S16384x1, .i32⟩) main_call4_v9) (TRef.of (T := ⟨S16384x1, .i1⟩) main_call4_v10) (cmpi .sle),
    TRef.binary (TRef.of (T := ⟨S16384x1, .i1⟩) main_call4_v7) (TRef.of (T := ⟨S16384x1, .i1⟩) main_call4_v10) (TRef.of (T := ⟨S16384x1, .i1⟩) main_call4_v11) andi,
    TRef.nullary (TRef.of (T := ⟨S_, .i1⟩) main_call4_c_3) (constantI S_ 1 1#1),
    TRef.binary (TRef.of (T := ⟨S16384x1, .i1⟩) main_call4_v11) (TRef.of (T := ⟨S_, .i1⟩) main_call4_c_3) (TRef.of (T := ⟨S16384, .i1⟩) main_call4_v12) (fun x v => Host.reduce IntOp.andi x v reducesTo_S16384x1_S16384_d1 h_S_),
    TRef.binary (TRef.of (T := ⟨S1024x64, .f32⟩) main_arg8) (TRef.of (T := ⟨S16384x1, .i32⟩) main_call4_v5) (TRef.of (T := ⟨S16384x64, .f32⟩) main_call4_v13) (fun x i => Host.gather gather_S1024x64_S16384x1_S16384x64_1_0_n_n_0_1_164 x i),
    TRef.unary (TRef.of (T := ⟨S16384, .i1⟩) main_call4_v12) (TRef.of (T := ⟨S16384x64, .i1⟩) main_call4_v14) (broadcastInDim S16384x64 ![0] bcast_S16384_S16384x64_0),
    TRef.nullary (TRef.of (T := ⟨S_, .f32⟩) main_call4_cst) (constant S_ .f32 0x7FC00000#32),
    TRef.unary (TRef.of (T := ⟨S_, .f32⟩) main_call4_cst) (TRef.of (T := ⟨S16384x64, .f32⟩) main_call4_v15) (broadcastInDim S16384x64 ![] bcast_S_S16384x64),
    TRef.ternary (TRef.of (T := ⟨S16384x64, .i1⟩) main_call4_v14) (TRef.of (T := ⟨S16384x64, .f32⟩) main_call4_v13) (TRef.of (T := ⟨S16384x64, .f32⟩) main_call4_v15) (TRef.of (T := ⟨S16384x64, .f32⟩) main_v38) select ]

/-- The buffers that `clsOps` writes. -/
abbrev clsBufs : List (Ref sig .tc) :=
  [main_call4_c, main_call4_v0, main_call4_v1, main_call4_c_0, main_call4_v2, main_call4_v3, main_call4_v4,
   main_call4_v5, main_call4_c_1, main_call4_c_2, main_call4_v6, main_call4_v7, main_call4_v8, main_call4_v9,
   main_call4_v10, main_call4_v11, main_call4_c_3, main_call4_v12, main_call4_v13, main_call4_v14, main_call4_cst,
   main_call4_v15, main_v38]

/-- The operations of the loss, and the vectors that the decoder takes. -/
abbrev lossOps : List (HloOp τ sig (Elt F)) :=
  [ binary main_v13 main_v38 main_v39 (subf : (⟨S16384x64, .f32⟩ : BufTy).Contents (Elt F) → (⟨S16384x64, .f32⟩ : BufTy).Contents (Elt F) → (⟨S16384x64, .f32⟩ : BufTy).Contents (Elt F)),
    binary main_v39 main_v39 main_v40 (mulf : (⟨S16384x64, .f32⟩ : BufTy).Contents (Elt F) → (⟨S16384x64, .f32⟩ : BufTy).Contents (Elt F) → (⟨S16384x64, .f32⟩ : BufTy).Contents (Elt F)),
    nullary main_cst_6 (constant S_ .f32 0x00000000#32),
    binary main_v40 main_cst_6 main_v41 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_7 (constant S_ .f32 0x49800000#32),
    binary main_v41 main_cst_7 main_v42 (Host.divf : (⟨S_, .f32⟩ : BufTy).Contents (Elt F) → (⟨S_, .f32⟩ : BufTy).Contents (Elt F) → (⟨S_, .f32⟩ : BufTy).Contents (Elt F)),
    nullary main_cst_8 (constant S_ .f32 0x3E800000#32),
    binary main_cst_8 main_v33 main_v43 (mulf : (⟨S_, .f32⟩ : BufTy).Contents (Elt F) → (⟨S_, .f32⟩ : BufTy).Contents (Elt F) → (⟨S_, .f32⟩ : BufTy).Contents (Elt F)),
    binary main_v37 main_v43 main_v44 (addf : (⟨S_, .f32⟩ : BufTy).Contents (Elt F) → (⟨S_, .f32⟩ : BufTy).Contents (Elt F) → (⟨S_, .f32⟩ : BufTy).Contents (Elt F)),
    nullary main_cst_9 (constant S_ .f32 0x3DCCCCCD#32),
    binary main_cst_9 main_v42 main_v45 (mulf : (⟨S_, .f32⟩ : BufTy).Contents (Elt F) → (⟨S_, .f32⟩ : BufTy).Contents (Elt F) → (⟨S_, .f32⟩ : BufTy).Contents (Elt F)),
    binary main_v44 main_v45 main_v46 (addf : (⟨S_, .f32⟩ : BufTy).Contents (Elt F) → (⟨S_, .f32⟩ : BufTy).Contents (Elt F) → (⟨S_, .f32⟩ : BufTy).Contents (Elt F)),
    binary main_v29 main_v13 main_v47 (subf : (⟨S16384x64, .f32⟩ : BufTy).Contents (Elt F) → (⟨S16384x64, .f32⟩ : BufTy).Contents (Elt F) → (⟨S16384x64, .f32⟩ : BufTy).Contents (Elt F)),
    binary main_v13 main_v47 main_v48 (addf : (⟨S16384x64, .f32⟩ : BufTy).Contents (Elt F) → (⟨S16384x64, .f32⟩ : BufTy).Contents (Elt F) → (⟨S16384x64, .f32⟩ : BufTy).Contents (Elt F)) ]

/-- The buffers that `lossOps` writes. -/
abbrev lossBufs : List (Ref sig .tc) :=
  [main_v39, main_v40, main_cst_6, main_v41, main_cst_7, main_v42, main_cst_8, main_v43, main_v44, main_cst_9,
   main_v45, main_v46, main_v47, main_v48]

/-- The operations of the perplexity of the choices. -/
abbrev perpOps : List (HloOp τ sig (Elt F)) :=
  [ nullary main_c (constantI S_ 32 0#32),
    unary main_c main_v49 (broadcastInDim S1024 ![] bcast_S_S1024 : (⟨S_, .i32⟩ : BufTy).Contents (Elt F) → (⟨S1024, .i32⟩ : BufTy).Contents (Elt F)),
    nullary main_c_10 (constantI S_ 32 0#32),
    TRef.unary (TRef.of (T := ⟨S_, .i32⟩) main_c_10) (TRef.of (T := ⟨S_, .i32⟩) main_call5_v0) id,
    TRef.unary (TRef.of (T := ⟨S_, .i32⟩) main_call5_v0) (TRef.of (T := ⟨S16384, .i32⟩) main_call5_v1) (broadcastInDim S16384 ![] bcast_S_S16384),
    TRef.binary (TRef.of (T := ⟨S16384, .i32⟩) main_call5_v1) (TRef.of (T := ⟨S16384, .i32⟩) main_v28) (TRef.of (T := ⟨S16384, .i32⟩) main_v50) maxsi,
    nullary main_c_11 (constantI S_ 32 0#32),
    unary main_c_11 main_v51 (broadcastInDim S16384 ![] bcast_S_S16384 : (⟨S_, .i32⟩ : BufTy).Contents (Elt F) → (⟨S16384, .i32⟩ : BufTy).Contents (Elt F)),
    binary main_v50 main_v51 main_v52 (cmpi .slt : (⟨S16384, .i32⟩ : BufTy).Contents (Elt F) → (⟨S16384, .i32⟩ : BufTy).Contents (Elt F) → (⟨S16384, .i1⟩ : BufTy).Contents (Elt F)),
    nullary main_c_12 (constantI S_ 32 1024#32),
    unary main_c_12 main_v53 (broadcastInDim S16384 ![] bcast_S_S16384 : (⟨S_, .i32⟩ : BufTy).Contents (Elt F) → (⟨S16384, .i32⟩ : BufTy).Contents (Elt F)),
    binary main_v50 main_v53 main_v54 (addi : (⟨S16384, .i32⟩ : BufTy).Contents (Elt F) → (⟨S16384, .i32⟩ : BufTy).Contents (Elt F) → (⟨S16384, .i32⟩ : BufTy).Contents (Elt F)),
    ternary main_v52 main_v54 main_v50 main_v55 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v55 main_v56 (broadcastInDim S16384x1 ![0] bcast_S16384_S16384x1_0 : (⟨S16384, .i32⟩ : BufTy).Contents (Elt F) → (⟨S16384x1, .i32⟩ : BufTy).Contents (Elt F)),
    nullary main_c_13 (constantI S_ 32 1#32),
    unary main_c_13 main_v57 (broadcastInDim S16384 ![] bcast_S_S16384 : (⟨S_, .i32⟩ : BufTy).Contents (Elt F) → (⟨S16384, .i32⟩ : BufTy).Contents (Elt F)),
    ternary main_v49 main_v56 main_v57 main_v58 ((fun x i u => Host.scatter scatter_S1024_S16384x1_S16384_n_0_0_1 IntOp.addi x i u) : (⟨S1024, .i32⟩ : BufTy).Contents (Elt F) → (⟨S16384x1, .i32⟩ : BufTy).Contents (Elt F) → (⟨S16384, .i32⟩ : BufTy).Contents (Elt F) → (⟨S1024, .i32⟩ : BufTy).Contents (Elt F)),
    unary main_v58 main_v59 (sitofp .f32 : (⟨S1024, .i32⟩ : BufTy).Contents (Elt F) → (⟨S1024, .f32⟩ : BufTy).Contents (Elt F)),
    nullary main_cst_14 (constant S_ .f32 0x46800000#32),
    unary main_cst_14 main_v60 (broadcastInDim S1024 ![] bcast_S_S1024 : (⟨S_, .f32⟩ : BufTy).Contents (Elt F) → (⟨S1024, .f32⟩ : BufTy).Contents (Elt F)),
    binary main_v59 main_v60 main_v61 (Host.divf : (⟨S1024, .f32⟩ : BufTy).Contents (Elt F) → (⟨S1024, .f32⟩ : BufTy).Contents (Elt F) → (⟨S1024, .f32⟩ : BufTy).Contents (Elt F)),
    nullary main_cst_15 (constant S_ .f32 0x2EDBE6FF#32),
    unary main_cst_15 main_v62 (broadcastInDim S1024 ![] bcast_S_S1024 : (⟨S_, .f32⟩ : BufTy).Contents (Elt F) → (⟨S1024, .f32⟩ : BufTy).Contents (Elt F)),
    binary main_v61 main_v62 main_v63 (addf : (⟨S1024, .f32⟩ : BufTy).Contents (Elt F) → (⟨S1024, .f32⟩ : BufTy).Contents (Elt F) → (⟨S1024, .f32⟩ : BufTy).Contents (Elt F)),
    unary main_v63 main_v64 (Host.log : (⟨S1024, .f32⟩ : BufTy).Contents (Elt F) → (⟨S1024, .f32⟩ : BufTy).Contents (Elt F)),
    binary main_v61 main_v64 main_v65 (mulf : (⟨S1024, .f32⟩ : BufTy).Contents (Elt F) → (⟨S1024, .f32⟩ : BufTy).Contents (Elt F) → (⟨S1024, .f32⟩ : BufTy).Contents (Elt F)),
    nullary main_cst_16 (constant S_ .f32 0x00000000#32),
    binary main_v65 main_cst_16 main_v66 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v66 main_v67 (Host.negf : (⟨S_, .f32⟩ : BufTy).Contents (Elt F) → (⟨S_, .f32⟩ : BufTy).Contents (Elt F)),
    unary main_v67 main_v68 (Host.exp : (⟨S_, .f32⟩ : BufTy).Contents (Elt F) → (⟨S_, .f32⟩ : BufTy).Contents (Elt F)) ]

/-- The buffers that `perpOps` writes. -/
abbrev perpBufs : List (Ref sig .tc) :=
  [main_c, main_v49, main_c_10, main_call5_v0, main_call5_v1, main_v50, main_c_11, main_v51, main_v52, main_c_12,
   main_v53, main_v54, main_v55, main_v56, main_c_13, main_v57, main_v58, main_v59, main_cst_14, main_v60,
   main_v61, main_cst_15, main_v62, main_v63, main_v64, main_v65, main_cst_16, main_v66, main_v67, main_v68]

/-- The operations of the decoder, and the two scalars as 1x1 arrays. -/
abbrev decOps : List (HloOp τ sig (Elt F)) :=
  [ binary main_v48 main_arg9 main_v69 ((fun l r => Host.dotGeneral dot_S16384x64_S64x512_S16384x512_1_0_0_1_n_n none l r) : (⟨S16384x64, .f32⟩ : BufTy).Contents (Elt F) → (⟨S64x512, .f32⟩ : BufTy).Contents (Elt F) → (⟨S16384x512, .f32⟩ : BufTy).Contents (Elt F)),
    unary main_arg10 main_v70 (broadcastInDim S1x512 ![1] bcast_S512_S1x512_1 : (⟨S512, .f32⟩ : BufTy).Contents (Elt F) → (⟨S1x512, .f32⟩ : BufTy).Contents (Elt F)),
    unary main_v70 main_v71 (broadcastInDim S16384x512 ![0, 1] bcast_S1x512_S16384x512_0_1 : (⟨S1x512, .f32⟩ : BufTy).Contents (Elt F) → (⟨S16384x512, .f32⟩ : BufTy).Contents (Elt F)),
    binary main_v69 main_v71 main_v72 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16384x512, .f32⟩) main_call6_v0) (broadcastInDim S16384x512 ![] bcast_S_S16384x512),
    TRef.binary (TRef.of (T := ⟨S16384x512, .f32⟩) main_v72) (TRef.of (T := ⟨S16384x512, .f32⟩) main_call6_v0) (TRef.of (T := ⟨S16384x512, .f32⟩) main_v73) maximumf,
    binary main_v73 main_arg11 main_v74 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    unary main_arg12 main_v75 (broadcastInDim S1x1024 ![1] bcast_S1024_S1x1024_1 : (⟨S1024, .f32⟩ : BufTy).Contents (Elt F) → (⟨S1x1024, .f32⟩ : BufTy).Contents (Elt F)),
    unary main_v75 main_v76 (broadcastInDim S16384x1024 ![0, 1] bcast_S1x1024_S16384x1024_0_1 : (⟨S1x1024, .f32⟩ : BufTy).Contents (Elt F) → (⟨S16384x1024, .f32⟩ : BufTy).Contents (Elt F)),
    binary main_v74 main_v76 main_v77 (addf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16384x1024, .f32⟩) main_call7_v0) (broadcastInDim S16384x1024 ![] bcast_S_S16384x1024),
    TRef.binary (TRef.of (T := ⟨S16384x1024, .f32⟩) main_v77) (TRef.of (T := ⟨S16384x1024, .f32⟩) main_call7_v0) (TRef.of (T := ⟨S16384x1024, .f32⟩) main_v78) maximumf,
    binary main_v78 main_arg13 main_v79 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    unary main_arg14 main_v80 (broadcastInDim S1x512 ![1] bcast_S512_S1x512_1 : (⟨S512, .f32⟩ : BufTy).Contents (Elt F) → (⟨S1x512, .f32⟩ : BufTy).Contents (Elt F)),
    unary main_v80 main_v81 (broadcastInDim S16384x512 ![0, 1] bcast_S1x512_S16384x512_0_1 : (⟨S1x512, .f32⟩ : BufTy).Contents (Elt F) → (⟨S16384x512, .f32⟩ : BufTy).Contents (Elt F)),
    binary main_v79 main_v81 main_v82 (addf : (⟨S16384x512, .f32⟩ : BufTy).Contents (Elt F) → (⟨S16384x512, .f32⟩ : BufTy).Contents (Elt F) → (⟨S16384x512, .f32⟩ : BufTy).Contents (Elt F)),
    reshape main_v46 main_v83 (rfl : (.f32 : EltTy) = .f32) shapeCasts_S_S1x1,
    reshape main_v68 main_v84 (rfl : (.f32 : EltTy) = .f32) shapeCasts_S_S1x1 ]

/-- The buffers that `decOps` writes. -/
abbrev decBufs : List (Ref sig .tc) :=
  [main_v69, main_v70, main_v71, main_v72, main_call6_cst, main_call6_v0, main_v73, main_v74, main_v75, main_v76,
   main_v77, main_call7_cst, main_call7_v0, main_v78, main_v79, main_v80, main_v81, main_v82, main_v83, main_v84]

/-- The line's first part: all up to the vectors that the decoder takes. -/
abbrev firstOps : List (HloOp τ sig (Elt F)) := encOps ++ distOps ++ nearOps ++ pickOps ++ fitOps ++ clsOps ++ lossOps
/-- The line's second part. -/
abbrev secondOps : List (HloOp τ sig (Elt F)) := perpOps ++ decOps
/-- The whole line. -/
abbrev ops : List (HloOp τ sig (Elt F)) := firstOps ++ secondOps

set_option maxHeartbeats 4000000 in
/-- The program's first part is the first part of the line. -/
theorem main_part0_eq (c : Fin nD) : main_part0 (F := F) c = seq firstOps := rfl
set_option maxHeartbeats 4000000 in
/-- The program's second part is the second part of the line. -/
theorem main_part1_eq (c : Fin nD) : main_part1 (F := F) c = seq secondOps := rfl
/-- The program is the line. -/
theorem main_eq (c : Fin nD) : main (F := F) c = seq ops := by
  simp only [ops, seq_append, ← main_part0_eq c, ← main_part1_eq c]; rfl

/-- No buffer of the program is scoped. -/
theorem scopedRefs_eq : (Finset.univ.filter fun b : Ref sig .tc => b.isScoped) = ∅ := by decide
/-- The program has no semaphores. -/
theorem scopedSems_eq : (Finset.univ.filter fun sm : SemLoc sig => sm.isScoped .tc) = ∅ := by decide

/-- `encOps` touches the TensorCore's buffers alone. -/
theorem enc_sub : (encOps : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, and_self]
/-- `distOps` touches the TensorCore's buffers alone. -/
theorem dist_sub : (distOps : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, and_self]
/-- `nearOps` touches the TensorCore's buffers alone. -/
theorem near_sub : (nearOps : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, and_self]
/-- `pickOps` touches the TensorCore's buffers alone. -/
theorem pick_sub : (pickOps : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, and_self]
/-- `fitOps` touches the TensorCore's buffers alone. -/
theorem fit_sub : (fitOps : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, and_self]
/-- `clsOps` touches the TensorCore's buffers alone. -/
theorem cls_sub : (clsOps : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, and_self]
/-- `lossOps` touches the TensorCore's buffers alone. -/
theorem loss_sub : (lossOps : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, and_self]
/-- `perpOps` touches the TensorCore's buffers alone. -/
theorem perp_sub : (perpOps : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, and_self]
/-- `decOps` touches the TensorCore's buffers alone. -/
theorem dec_sub : (decOps : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, and_self]

/-- What holds of every operation of each of two lines holds of every operation of the two together. -/
theorem forall_app {P : HloOp τ sig (Elt F) → Prop} {a b : List (HloOp τ sig (Elt F))} (ha : a.Forall P) (hb : b.Forall P) :
    (a ++ b).Forall P := by
  rw [List.forall_iff_forall_mem] at *
  intro x hx
  rcases List.mem_append.mp hx with h | h
  exacts [ha x h, hb x h]

/-- The whole line touches the TensorCore's buffers alone. -/
theorem ops_sub : (ops : List (HloOp τ sig (Elt F))).Forall fun op => op.bufs ⊆ tcRefs τ sig :=
  forall_app (forall_app (forall_app (forall_app (forall_app (forall_app (forall_app enc_sub dist_sub) near_sub) pick_sub) fit_sub) cls_sub) loss_sub)
    (forall_app perp_sub dec_sub)

/-- The whole line writes no buffer that it does not determine. -/
theorem ops_fresh : (ops : List (HloOp τ sig (Elt F))).Forall fun op => op.fresh = ∅ :=
  forall_app (forall_app (forall_app (forall_app (forall_app (forall_app (forall_app (forall_fresh_of_map (ops := encOps) rfl) (forall_fresh_of_map (ops := distOps) rfl)) (forall_fresh_of_map (ops := nearOps) rfl)) (forall_fresh_of_map (ops := pickOps) rfl)) (forall_fresh_of_map (ops := fitOps) rfl)) (forall_fresh_of_map (ops := clsOps) rfl)) (forall_fresh_of_map (ops := lossOps) rfl))
    (forall_app (forall_fresh_of_map (ops := perpOps) rfl) (forall_fresh_of_map (ops := decOps) rfl))

/-! ## What each window leaves -/

/-- A buffer that `encOps` does not write keeps its contents. -/
theorem enc_keep (V : Valuation τ sig (Elt F)) (r : Ref sig .tc) (h : r ∉ encBufs) :
    after encOps V (no_index (Proc.devRef .tc r)) = V (Proc.devRef .tc r) :=
  after_of_writes_sub encOps V (forall_writes_sub_of_map rfl) h
/-- A buffer that `distOps` does not write keeps its contents. -/
theorem dist_keep (V : Valuation τ sig (Elt F)) (r : Ref sig .tc) (h : r ∉ distBufs) :
    after distOps V (no_index (Proc.devRef .tc r)) = V (Proc.devRef .tc r) :=
  after_of_writes_sub distOps V (forall_writes_sub_of_map rfl) h
/-- A buffer that `nearOps` does not write keeps its contents. -/
theorem near_keep (V : Valuation τ sig (Elt F)) (r : Ref sig .tc) (h : r ∉ nearBufs) :
    after nearOps V (no_index (Proc.devRef .tc r)) = V (Proc.devRef .tc r) :=
  after_of_writes_sub nearOps V (forall_writes_sub_of_map rfl) h
/-- A buffer that `pickOps` does not write keeps its contents. -/
theorem pick_keep (V : Valuation τ sig (Elt F)) (r : Ref sig .tc) (h : r ∉ pickBufs) :
    after pickOps V (no_index (Proc.devRef .tc r)) = V (Proc.devRef .tc r) :=
  after_of_writes_sub pickOps V (forall_writes_sub_of_map rfl) h
/-- A buffer that `fitOps` does not write keeps its contents. -/
theorem fit_keep (V : Valuation τ sig (Elt F)) (r : Ref sig .tc) (h : r ∉ fitBufs) :
    after fitOps V (no_index (Proc.devRef .tc r)) = V (Proc.devRef .tc r) :=
  after_of_writes_sub fitOps V (forall_writes_sub_of_map rfl) h
/-- A buffer that `clsOps` does not write keeps its contents. -/
theorem cls_keep (V : Valuation τ sig (Elt F)) (r : Ref sig .tc) (h : r ∉ clsBufs) :
    after clsOps V (no_index (Proc.devRef .tc r)) = V (Proc.devRef .tc r) :=
  after_of_writes_sub clsOps V (forall_writes_sub_of_map rfl) h
/-- A buffer that `lossOps` does not write keeps its contents. -/
theorem loss_keep (V : Valuation τ sig (Elt F)) (r : Ref sig .tc) (h : r ∉ lossBufs) :
    after lossOps V (no_index (Proc.devRef .tc r)) = V (Proc.devRef .tc r) :=
  after_of_writes_sub lossOps V (forall_writes_sub_of_map rfl) h
/-- A buffer that `perpOps` does not write keeps its contents. -/
theorem perp_keep (V : Valuation τ sig (Elt F)) (r : Ref sig .tc) (h : r ∉ perpBufs) :
    after perpOps V (no_index (Proc.devRef .tc r)) = V (Proc.devRef .tc r) :=
  after_of_writes_sub perpOps V (forall_writes_sub_of_map rfl) h
/-- A buffer that `decOps` does not write keeps its contents. -/
theorem dec_keep (V : Valuation τ sig (Elt F)) (r : Ref sig .tc) (h : r ∉ decBufs) :
    after decOps V (no_index (Proc.devRef .tc r)) = V (Proc.devRef .tc r) :=
  after_of_writes_sub decOps V (forall_writes_sub_of_map rfl) h

set_option maxHeartbeats 4000000 in
/-- `encOps` leaves the code vectors. -/
theorem enc_v13 (V : Valuation τ sig (Elt F)) :
    after encOps V (no_index (Proc.devRef .tc main_v13)) = encode (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp only [encOps, TRef.nullary, TRef.unary, TRef.binary, TRef.ternary, TRef.quaternary, TRef.toBuf, TRef.ofBuf, cast_eq]
  after_results_simp <;> rfl

set_option maxHeartbeats 4000000 in
/-- `distOps` leaves the distances. -/
theorem dist_v27 (V : Valuation τ sig (Elt F)) :
    after distOps V (no_index (Proc.devRef .tc main_v27)) = distances (V (Proc.devRef .tc main_v13)) (V (Proc.devRef .tc main_arg8)) := by
  simp only [distOps, TRef.nullary, TRef.unary, TRef.binary, TRef.ternary, TRef.quaternary, TRef.toBuf, TRef.ofBuf, cast_eq]
  after_results_simp <;> rfl

set_option maxHeartbeats 4000000 in
/-- `nearOps` leaves the columns of the least distances. -/
theorem near_v28 (V : Valuation τ sig (Elt F)) :
    after nearOps V (no_index (Proc.devRef .tc main_v28)) = leastAt (V (Proc.devRef .tc main_v27)) := by
  simp only [nearOps, TRef.nullary, TRef.unary, TRef.binary, TRef.ternary, TRef.quaternary, TRef.toBuf, TRef.ofBuf, cast_eq]
  after_results_simp <;> rfl

set_option maxHeartbeats 4000000 in
/-- `pickOps` leaves the rows at the chosen columns. -/
theorem pick_v29 (V : Valuation τ sig (Elt F)) :
    after pickOps V (no_index (Proc.devRef .tc main_v29)) = rowsAt (V (Proc.devRef .tc main_arg8)) (V (Proc.devRef .tc main_v28)) := by
  simp only [pickOps, TRef.nullary, TRef.unary, TRef.binary, TRef.ternary, TRef.quaternary, TRef.toBuf, TRef.ofBuf, cast_eq]
  after_results_simp <;> rfl

set_option maxHeartbeats 4000000 in
/-- `fitOps` leaves the mean of the squares. -/
theorem fit_v33 (V : Valuation τ sig (Elt F)) :
    after fitOps V (no_index (Proc.devRef .tc main_v33)) = meanSq (V (Proc.devRef .tc main_v29)) (V (Proc.devRef .tc main_v13)) := by
  simp only [fitOps, TRef.nullary, TRef.unary, TRef.binary, TRef.ternary, TRef.quaternary, TRef.toBuf, TRef.ofBuf, cast_eq]
  after_results_simp <;> rfl

set_option maxHeartbeats 4000000 in
/-- `fitOps` leaves the mean of the squares again. -/
theorem fit_v37 (V : Valuation τ sig (Elt F)) :
    after fitOps V (no_index (Proc.devRef .tc main_v37)) = meanSq (V (Proc.devRef .tc main_v29)) (V (Proc.devRef .tc main_v13)) := by
  simp only [fitOps, TRef.nullary, TRef.unary, TRef.binary, TRef.ternary, TRef.quaternary, TRef.toBuf, TRef.ofBuf, cast_eq]
  after_results_simp <;> rfl

set_option maxHeartbeats 4000000 in
/-- `clsOps` leaves the rows at the classes. -/
theorem cls_v38 (V : Valuation τ sig (Elt F)) :
    after clsOps V (no_index (Proc.devRef .tc main_v38)) = rowsAt (V (Proc.devRef .tc main_arg8)) (V (Proc.devRef .tc main_arg1)) := by
  simp only [clsOps, TRef.nullary, TRef.unary, TRef.binary, TRef.ternary, TRef.quaternary, TRef.toBuf, TRef.ofBuf, cast_eq]
  after_results_simp <;> rfl

set_option maxHeartbeats 4000000 in
/-- `lossOps` leaves the loss. -/
theorem loss_v46 (V : Valuation τ sig (Elt F)) :
    after lossOps V (no_index (Proc.devRef .tc main_v46)) = weigh (V (Proc.devRef .tc main_v37)) (V (Proc.devRef .tc main_v33)) (meanSq (V (Proc.devRef .tc main_v13)) (V (Proc.devRef .tc main_v38))) := by
  simp only [lossOps, TRef.nullary, TRef.unary, TRef.binary, TRef.ternary, TRef.quaternary, TRef.toBuf, TRef.ofBuf, cast_eq]
  after_results_simp <;> rfl

set_option maxHeartbeats 4000000 in
/-- `lossOps` leaves the vectors that the decoder takes. -/
theorem loss_v48 (V : Valuation τ sig (Elt F)) :
    after lossOps V (no_index (Proc.devRef .tc main_v48)) = addf (V (Proc.devRef .tc main_v13)) (subf (V (Proc.devRef .tc main_v29)) (V (Proc.devRef .tc main_v13))) := by
  simp only [lossOps, TRef.nullary, TRef.unary, TRef.binary, TRef.ternary, TRef.quaternary, TRef.toBuf, TRef.ofBuf, cast_eq]
  after_results_simp <;> rfl

set_option maxHeartbeats 4000000 in
/-- `perpOps` leaves the perplexity. -/
theorem perp_v68 (V : Valuation τ sig (Elt F)) :
    after perpOps V (no_index (Proc.devRef .tc main_v68)) = perplexity (counts (F := F) (V (Proc.devRef .tc main_v28))) := by
  simp only [perpOps, TRef.nullary, TRef.unary, TRef.binary, TRef.ternary, TRef.quaternary, TRef.toBuf, TRef.ofBuf, cast_eq]
  after_results_simp <;> rfl

set_option maxHeartbeats 4000000 in
/-- `decOps` leaves the reconstruction. -/
theorem dec_v82 (V : Valuation τ sig (Elt F)) :
    after decOps V (no_index (Proc.devRef .tc main_v82)) = decode (V (Proc.devRef .tc main_v48)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [decOps, TRef.nullary, TRef.unary, TRef.binary, TRef.ternary, TRef.quaternary, TRef.toBuf, TRef.ofBuf, cast_eq]
  after_results_simp <;> rfl

set_option maxHeartbeats 4000000 in
/-- `decOps` leaves the loss as a 1x1 array. -/
theorem dec_v83 (V : Valuation τ sig (Elt F)) :
    after decOps V (no_index (Proc.devRef .tc main_v83)) = shapeCast S1x1 (V (Proc.devRef .tc main_v46)) shapeCasts_S_S1x1 := by
  simp only [decOps, TRef.nullary, TRef.unary, TRef.binary, TRef.ternary, TRef.quaternary, TRef.toBuf, TRef.ofBuf, cast_eq]
  after_results_simp <;> rfl

set_option maxHeartbeats 4000000 in
/-- `decOps` leaves the perplexity as a 1x1 array. -/
theorem dec_v84 (V : Valuation τ sig (Elt F)) :
    after decOps V (no_index (Proc.devRef .tc main_v84)) = shapeCast S1x1 (V (Proc.devRef .tc main_v68)) shapeCasts_S_S1x1 := by
  simp only [decOps, TRef.nullary, TRef.unary, TRef.binary, TRef.ternary, TRef.quaternary, TRef.toBuf, TRef.ofBuf, cast_eq]
  after_results_simp <;> rfl

/-! ## The run -/

/-- The code vectors of the inputs. -/
abbrev codes (V : Valuation τ sig (Elt F)) : Arr F S16384x64 .f32 :=
  encode (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7))
/-- The rows of the codebook chosen for the inputs. -/
abbrev chosen (V : Valuation τ sig (Elt F)) : Arr F S16384 .i32 := leastAt (distances (codes V) (V (Proc.devRef .tc main_arg8)))
/-- The mean square of the chosen rows less the code vectors. -/
abbrev fitOf (V : Valuation τ sig (Elt F)) : Arr F S_ .f32 := meanSq (rowsAt (V (Proc.devRef .tc main_arg8)) (chosen V)) (codes V)

set_option maxHeartbeats 4000000 in
/-- The line leaves the loss. -/
theorem ops_v83 (V : Valuation τ sig (Elt F)) :
    after ops V (no_index (Proc.devRef .tc main_v83)) = shapeCast S1x1 (weigh (fitOf V) (fitOf V) (meanSq (codes V) (rowsAt (V (Proc.devRef .tc main_arg8)) (V (Proc.devRef .tc main_arg1))))) shapeCasts_S_S1x1 := by
  simp (disch := decide) only [ops, firstOps, secondOps, after_append, enc_v13, dist_v27, near_v28, pick_v29, fit_v33, fit_v37, cls_v38, loss_v46, loss_v48, perp_v68, dec_v82, dec_v83, dec_v84,
    enc_keep, dist_keep, near_keep, pick_keep, fit_keep, cls_keep, loss_keep, perp_keep, dec_keep]

set_option maxHeartbeats 4000000 in
/-- The line leaves the reconstruction. -/
theorem ops_v82 (V : Valuation τ sig (Elt F)) :
    after ops V (no_index (Proc.devRef .tc main_v82)) = decode (addf (codes V) (subf (rowsAt (V (Proc.devRef .tc main_arg8)) (chosen V)) (codes V))) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp (disch := decide) only [ops, firstOps, secondOps, after_append, enc_v13, dist_v27, near_v28, pick_v29, fit_v33, fit_v37, cls_v38, loss_v46, loss_v48, perp_v68, dec_v82, dec_v83, dec_v84,
    enc_keep, dist_keep, near_keep, pick_keep, fit_keep, cls_keep, loss_keep, perp_keep, dec_keep]

set_option maxHeartbeats 4000000 in
/-- The line leaves the perplexity. -/
theorem ops_v84 (V : Valuation τ sig (Elt F)) :
    after ops V (no_index (Proc.devRef .tc main_v84)) = shapeCast S1x1 (perplexity (counts (F := F) (chosen V))) shapeCasts_S_S1x1 := by
  simp (disch := decide) only [ops, firstOps, secondOps, after_append, enc_v13, dist_v27, near_v28, pick_v29, fit_v33, fit_v37, cls_v38, loss_v46, loss_v48, perp_v68, dec_v82, dec_v83, dec_v84,
    enc_keep, dist_keep, near_keep, pick_keep, fit_keep, cls_keep, loss_keep, perp_keep, dec_keep]

set_option maxHeartbeats 4000000 in
/-- The line leaves the choices. -/
theorem ops_v28 (V : Valuation τ sig (Elt F)) :
    after ops V (no_index (Proc.devRef .tc main_v28)) = chosen V := by
  simp (disch := decide) only [ops, firstOps, secondOps, after_append, enc_v13, dist_v27, near_v28, pick_v29, fit_v33, fit_v37, cls_v38, loss_v46, loss_v48, perp_v68, dec_v82, dec_v83, dec_v84,
    enc_keep, dist_keep, near_keep, pick_keep, fit_keep, cls_keep, loss_keep, perp_keep, dec_keep]

set_option maxHeartbeats 4000000 in
/-- A buffer that no window writes keeps its contents. -/
theorem ops_keep (V : Valuation τ sig (Elt F)) (r : Ref sig .tc)
    (h : r ∉ encBufs ++ distBufs ++ nearBufs ++ pickBufs ++ fitBufs ++ clsBufs ++ lossBufs ++ perpBufs ++ decBufs) :
    after ops V (Proc.devRef .tc r) = V (Proc.devRef .tc r) := by
  simp only [List.mem_append, not_or] at h
  obtain ⟨⟨⟨⟨⟨⟨⟨⟨h1, h2⟩, h3⟩, h4⟩, h5⟩, h6⟩, h7⟩, h8⟩, h9⟩ := h
  simp only [ops, firstOps, secondOps, after_append]
  rw [dec_keep _ _ h9, perp_keep _ _ h8, loss_keep _ _ h7, cls_keep _ _ h6, fit_keep _ _ h5, pick_keep _ _ h4, near_keep _ _ h3,
    dist_keep _ _ h2, enc_keep _ _ h1]

/-- Every run of the reference ends with every buffer as the line leaves it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => List.forall_iff_forall_mem.mp ops_fresh

end Cert.ReferenceIdeal.RefRun

end
-- ==== Proof.Entry.lean ====
/-
  What the kernel's region starts from: the code vectors, the sums of their squares and of the codebook's, the transposed
  codebook and the biases, as functions of the arguments. The line of array operations before the region is read in four
  windows, each as a function of the arrays that enter it.
-/
module

public import proofs.«01_k».proof.Proof.Gen.KernelIdeal.Frame
public import proofs.«01_k».proof.Proof.RefRun
public import Idealize.ShloMosaic.Lib.Pointwise.IndexBridge

@[expose] public section

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo
open Cert.ReferenceIdeal.RefRun (Arr encode)

variable {F : FTy → Type} [FloatOps F]

/-! ## Sums over the 64 columns, as the kernel's program takes them -/

/-- The sum of each row's 64 entries: eight groups of eight, then halves. -/
def rowTree (w : Arr F S16384x64 .f32) : Arr F S16384x1 .f32 :=
  let o : Arr F S16384x8 .f32 :=
    addf (addf (addf (addf (addf (addf (addf (extractStridedSlice S16384x8 ![0, 0] w slices_S16384x64_S16384x8_0_0)
      (extractStridedSlice S16384x8 ![0, 8] w slices_S16384x64_S16384x8_0_8))
      (extractStridedSlice S16384x8 ![0, 16] w slices_S16384x64_S16384x8_0_16))
      (extractStridedSlice S16384x8 ![0, 24] w slices_S16384x64_S16384x8_0_24))
      (extractStridedSlice S16384x8 ![0, 32] w slices_S16384x64_S16384x8_0_32))
      (extractStridedSlice S16384x8 ![0, 40] w slices_S16384x64_S16384x8_0_40))
      (extractStridedSlice S16384x8 ![0, 48] w slices_S16384x64_S16384x8_0_48))
      (extractStridedSlice S16384x8 ![0, 56] w slices_S16384x64_S16384x8_0_56)
  let q : Arr F S16384x4 .f32 := addf (extractStridedSlice S16384x4 ![0, 0] o slices_S16384x8_S16384x4_0_0)
    (extractStridedSlice S16384x4 ![0, 4] o slices_S16384x8_S16384x4_0_4)
  let d : Arr F S16384x2 .f32 := addf (extractStridedSlice S16384x2 ![0, 0] q slices_S16384x4_S16384x2_0_0)
    (extractStridedSlice S16384x2 ![0, 2] q slices_S16384x4_S16384x2_0_2)
  addf (extractStridedSlice S16384x1 ![0, 0] d slices_S16384x2_S16384x1_0_0) (extractStridedSlice S16384x1 ![0, 1] d slices_S16384x2_S16384x1_0_1)

/-- The same for the 1024 rows of the codebook, laid out as one row. -/
def bookTree (w : Arr F S1024x64 .f32) : Arr F S1x1024 .f32 :=
  let o : Arr F S1024x8 .f32 :=
    addf (addf (addf (addf (addf (addf (addf (extractStridedSlice S1024x8 ![0, 0] w slices_S1024x64_S1024x8_0_0)
      (extractStridedSlice S1024x8 ![0, 8] w slices_S1024x64_S1024x8_0_8))
      (extractStridedSlice S1024x8 ![0, 16] w slices_S1024x64_S1024x8_0_16))
      (extractStridedSlice S1024x8 ![0, 24] w slices_S1024x64_S1024x8_0_24))
      (extractStridedSlice S1024x8 ![0, 32] w slices_S1024x64_S1024x8_0_32))
      (extractStridedSlice S1024x8 ![0, 40] w slices_S1024x64_S1024x8_0_40))
      (extractStridedSlice S1024x8 ![0, 48] w slices_S1024x64_S1024x8_0_48))
      (extractStridedSlice S1024x8 ![0, 56] w slices_S1024x64_S1024x8_0_56)
  let q : Arr F S1024x4 .f32 := addf (extractStridedSlice S1024x4 ![0, 0] o slices_S1024x8_S1024x4_0_0)
    (extractStridedSlice S1024x4 ![0, 4] o slices_S1024x8_S1024x4_0_4)
  let d : Arr F S1024x2 .f32 := addf (extractStridedSlice S1024x2 ![0, 0] q slices_S1024x4_S1024x2_0_0)
    (extractStridedSlice S1024x2 ![0, 2] q slices_S1024x4_S1024x2_0_2)
  transpose S1x1024 [1, 0]
    (addf (extractStridedSlice S1024x1 ![0, 0] d slices_S1024x2_S1024x1_0_0) (extractStridedSlice S1024x1 ![0, 1] d slices_S1024x2_S1024x1_0_1) : Arr F S1024x1 .f32)
    transposes_S1024x1_S1x1024_1_0

/-! ## The windows of the line -/

/-- The whole line before the region. -/
abbrev line : List (HloOp τ sig (Elt F)) := List.flatten [hostOps0, hostOps0_1, hostOps0_2, hostOps0_3, hostOps0_4]
/-- The encoder's part. -/
abbrev encPart : List (HloOp τ sig (Elt F)) := line.take 18
/-- The part of the sums of the code vectors' squares. -/
abbrev rowPart : List (HloOp τ sig (Elt F)) := (line.drop 18).take 25
/-- The part of the sums of the codebook's squares. -/
abbrev bookPart : List (HloOp τ sig (Elt F)) := (line.drop 43).take 26
/-- The part of the transposed codebook and of the biases. -/
abbrev lastPart : List (HloOp τ sig (Elt F)) := line.drop 69

/-- The four parts make the line. -/
theorem line_parts (V : Valuation τ sig (Elt F)) (r : DevRef τ sig) :
    after line V r = after lastPart (after bookPart (after rowPart (after encPart V))) r := by
  rw [← after_append, ← after_append, ← after_append]
  rfl

/-- The buffers that `rowPart` writes. -/
abbrev rowBufs : List (Ref sig .tc) :=
  [main_v14, main_v15, main_v16, main_v17, main_v18, main_v19, main_v20, main_v21, main_v22, main_v23, main_v24, main_v25, main_v26, main_v27,
   main_v28, main_v29, main_v30, main_v31, main_v32, main_v33, main_v34, main_v35, main_v36, main_v37, main_v38]
/-- The buffers that `bookPart` writes. -/
abbrev bookBufs : List (Ref sig .tc) :=
  [main_v39, main_v40, main_v41, main_v42, main_v43, main_v44, main_v45, main_v46, main_v47, main_v48, main_v49, main_v50, main_v51, main_v52,
   main_v53, main_v54, main_v55, main_v56, main_v57, main_v58, main_v59, main_v60, main_v61, main_v62, main_v63, main_v64]
/-- The buffers that `lastPart` writes. -/
abbrev lastBufs : List (Ref sig .tc) := [main_v65, main_v66, main_v67, main_v68, main_v69, main_v70]
/-- The buffers that `encPart` writes. -/
abbrev encBufs : List (Ref sig .tc) :=
  [main_v0, main_v1, main_v2, main_v3, main_call0_cst, main_call0_v0, main_v4, main_v5, main_v6, main_v7, main_v8,
   main_call1_cst, main_call1_v0, main_v9, main_v10, main_v11, main_v12, main_v13]

/-- A buffer that `encPart` does not write keeps its contents. -/
theorem enc_keep (V : Valuation τ sig (Elt F)) (r : Ref sig .tc) (h : r ∉ encBufs) :
    after encPart V (no_index (Proc.devRef .tc r)) = V (Proc.devRef .tc r) :=
  after_of_writes_sub encPart V (forall_writes_sub_of_map rfl) h
/-- A buffer that `rowPart` does not write keeps its contents. -/
theorem row_keep (V : Valuation τ sig (Elt F)) (r : Ref sig .tc) (h : r ∉ rowBufs) :
    after rowPart V (no_index (Proc.devRef .tc r)) = V (Proc.devRef .tc r) :=
  after_of_writes_sub rowPart V (forall_writes_sub_of_map rfl) h
/-- A buffer that `bookPart` does not write keeps its contents. -/
theorem book_keep (V : Valuation τ sig (Elt F)) (r : Ref sig .tc) (h : r ∉ bookBufs) :
    after bookPart V (no_index (Proc.devRef .tc r)) = V (Proc.devRef .tc r) :=
  after_of_writes_sub bookPart V (forall_writes_sub_of_map rfl) h
/-- A buffer that `lastPart` does not write keeps its contents. -/
theorem last_keep (V : Valuation τ sig (Elt F)) (r : Ref sig .tc) (h : r ∉ lastBufs) :
    after lastPart V (no_index (Proc.devRef .tc r)) = V (Proc.devRef .tc r) :=
  after_of_writes_sub lastPart V (forall_writes_sub_of_map rfl) h

set_option maxHeartbeats 2000000 in
/-- `encPart` leaves the code vectors. -/
theorem enc_v13 (V : Valuation τ sig (Elt F)) :
    after encPart V (no_index (Proc.devRef .tc main_v13)) = encode (V (Proc.devRef .tc main_arg0)) (V (Proc.devRef .tc main_arg2))
      (V (Proc.devRef .tc main_arg3)) (V (Proc.devRef .tc main_arg4)) (V (Proc.devRef .tc main_arg5)) (V (Proc.devRef .tc main_arg6))
      (V (Proc.devRef .tc main_arg7)) := by
  simp only [encPart, line, hostOps0, hostOps0_1, hostOps0_2, hostOps0_3, hostOps0_4, List.flatten_cons, List.flatten_nil, List.append_nil,
    List.cons_append, List.nil_append, List.take_succ_cons, List.take_zero, TRef.nullary, TRef.unary, TRef.binary, TRef.toBuf, TRef.ofBuf, cast_eq]
  after_results_simp <;> rfl

set_option maxHeartbeats 2000000 in
/-- `rowPart` leaves the sums of the code vectors' squares. -/
theorem row_v38 (V : Valuation τ sig (Elt F)) :
    after rowPart V (no_index (Proc.devRef .tc main_v38)) = rowTree (mulf (V (Proc.devRef .tc main_v13)) (V (Proc.devRef .tc main_v13))) := by
  simp only [rowPart, line, hostOps0, hostOps0_1, hostOps0_2, hostOps0_3, hostOps0_4, List.flatten_cons, List.flatten_nil, List.append_nil,
    List.cons_append, List.nil_append, List.take_succ_cons, List.take_zero, List.drop_succ_cons, List.drop_zero]
  after_results_simp <;> rfl

set_option maxHeartbeats 2000000 in
/-- `bookPart` leaves the sums of the codebook's squares. -/
theorem book_v64 (V : Valuation τ sig (Elt F)) :
    after bookPart V (no_index (Proc.devRef .tc main_v64)) = bookTree (mulf (V (Proc.devRef .tc main_arg8)) (V (Proc.devRef .tc main_arg8))) := by
  simp only [bookPart, line, hostOps0, hostOps0_1, hostOps0_2, hostOps0_3, hostOps0_4, List.flatten_cons, List.flatten_nil, List.append_nil,
    List.cons_append, List.nil_append, List.take_succ_cons, List.take_zero, List.drop_succ_cons, List.drop_zero]
  after_results_simp <;> rfl

/-- `lastPart` leaves the transposed codebook. -/
theorem last_v67 (V : Valuation τ sig (Elt F)) :
    after lastPart V (no_index (Proc.devRef .tc main_v67)) = extf .f32 (truncf .bf16 (transpose S64x1024 [1, 0] (V (Proc.devRef .tc main_arg8) : Arr F S1024x64 .f32) transposes_S1024x64_S64x1024_1_0) bitsLt_bf16_f32) bitsLt_bf16_f32 := by
  simp only [lastPart, line, hostOps0, hostOps0_1, hostOps0_2, hostOps0_3, hostOps0_4, List.flatten_cons, List.flatten_nil, List.append_nil,
    List.cons_append, List.nil_append, List.drop_succ_cons, List.drop_zero]
  after_results_simp <;> rfl

/-- `lastPart` leaves the decoder's first bias as a row. -/
theorem last_v68 (V : Valuation τ sig (Elt F)) :
    after lastPart V (no_index (Proc.devRef .tc main_v68)) = shapeCast S1x512 (V (Proc.devRef .tc main_arg10) : Arr F S512 .f32) shapeCasts_S512_S1x512 := by
  simp only [lastPart, line, hostOps0, hostOps0_1, hostOps0_2, hostOps0_3, hostOps0_4, List.flatten_cons, List.flatten_nil, List.append_nil,
    List.cons_append, List.nil_append, List.drop_succ_cons, List.drop_zero]
  after_results_simp <;> rfl

/-- `lastPart` leaves the decoder's second bias as a row. -/
theorem last_v69 (V : Valuation τ sig (Elt F)) :
    after lastPart V (no_index (Proc.devRef .tc main_v69)) = shapeCast S1x1024 (V (Proc.devRef .tc main_arg12) : Arr F S1024 .f32) shapeCasts_S1024_S1x1024 := by
  simp only [lastPart, line, hostOps0, hostOps0_1, hostOps0_2, hostOps0_3, hostOps0_4, List.flatten_cons, List.flatten_nil, List.append_nil,
    List.cons_append, List.nil_append, List.drop_succ_cons, List.drop_zero]
  after_results_simp <;> rfl

/-- `lastPart` leaves the decoder's third bias as a row. -/
theorem last_v70 (V : Valuation τ sig (Elt F)) :
    after lastPart V (no_index (Proc.devRef .tc main_v70)) = shapeCast S1x512 (V (Proc.devRef .tc main_arg14) : Arr F S512 .f32) shapeCasts_S512_S1x512 := by
  simp only [lastPart, line, hostOps0, hostOps0_1, hostOps0_2, hostOps0_3, hostOps0_4, List.flatten_cons, List.flatten_nil, List.append_nil,
    List.cons_append, List.nil_append, List.drop_succ_cons, List.drop_zero]
  after_results_simp <;> rfl

end Cert.KernelIdeal.Entry
end
-- ==== Proof.Arith.lean ====
/-
  The arithmetic that both programs come down to, of families of extended reals and words alone: the first index at which a
  family is least, in the form of a minimum of indices and in the form of a fold over pairs; sums against a row of zeros and a
  one; the weighting of the two sums of squares; counts as sums of ones.
-/
module

public import Idealize.ShloMosaic.Lib.Pointwise
public import Idealize.ShloMosaic.Lib.IdealHost
public import Idealize.ShloMosaic.Lib.SortNet.Extract
public import Mathlib.Data.Prod.Lex

@[expose] public section

set_option maxRecDepth 16384

noncomputable section

namespace Cert.Arith

open Idealize.ShloMosaic

/-! ## The first index at which a family is least -/

/-- Some entry of a family is least. -/
theorem lows_nonempty (f : Fin 1024 → EReal) : (Finset.univ.filter fun j => ∀ i, f j ≤ f i).Nonempty := by
  obtain ⟨j, -, hj⟩ := Finset.exists_min_image Finset.univ f ⟨0, Finset.mem_univ _⟩
  exact ⟨j, Finset.mem_filter.2 ⟨Finset.mem_univ _, fun i => hj i (Finset.mem_univ _)⟩⟩

/-- The first index at which `f` is least. -/
def nearest (f : Fin 1024 → EReal) : Fin 1024 := (Finset.univ.filter fun j => ∀ i, f j ≤ f i).min' (lows_nonempty f)

/-- The entry at `nearest f` is least. -/
theorem nearest_le (f : Fin 1024 → EReal) (i : Fin 1024) : f (nearest f) ≤ f i :=
  (Finset.mem_filter.1 (Finset.min'_mem _ (lows_nonempty f))).2 i

/-- No least entry comes before `nearest f`. -/
theorem nearest_first (f : Fin 1024 → EReal) (k : Fin 1024) (h : ∀ i, f k ≤ f i) : nearest f ≤ k :=
  Finset.min'_le _ _ (Finset.mem_filter.2 ⟨Finset.mem_univ _, h⟩)

/-- A small number as a signed word. -/
theorem toInt_small (n : Nat) (h : n < 2 ^ 31) : (BitVec.ofNat 32 n).toInt = (n : Int) := by
  rw [BitVec.toInt_eq_toNat_of_lt] <;> rw [BitVec.toNat_ofNat] <;> omega

/-- The pattern of infinity. -/
theorem ofBits_top : Ideal.ofBits .f32 0x7F800000#32 = ⊤ := by simp [Ideal.ofBits, Ideal.ieee]

/-- The minimum of a family, taken from infinity, is its entry at `nearest f`. -/
theorem fold_min_eq (f : Fin 1024 → EReal) : Finset.fold min (Ideal.ofBits .f32 0x7F800000#32) f Finset.univ = f (nearest f) := by
  rw [ofBits_top]
  refine le_antisymm (Finset.fold_min_le _ |>.2 (.inr ⟨nearest f, Finset.mem_univ _, le_rfl⟩)) ?_
  exact Finset.le_fold_min _ |>.2 ⟨le_top, fun i _ => nearest_le f i⟩

/-- The least index at which the family is its own minimum, every other index replaced by one past the last. -/
theorem fold_minsi_eq (f : Fin 1024 → EReal) :
    Finset.fold IntOp.minsi 2147483647#32 (fun x : Fin 1024 =>
        if f x = Finset.fold min (Ideal.ofBits .f32 0x7F800000#32) f Finset.univ then BitVec.ofNat 32 x.val else 1024#32) Finset.univ
      = BitVec.ofNat 32 (nearest f).val := by
  rw [fold_min_eq]
  apply BitVec.eq_of_toInt_eq
  rw [toInt_small _ (by omega), ← Finset.fold_hom (m := fun w : BitVec 32 => w.toInt) (op' := min) (fun a b => SortNet.toInt_minsi a b)]
  have e : ∀ x : Fin 1024, (if f x = f (nearest f) then BitVec.ofNat 32 x.val else 1024#32).toInt
      = if f x = f (nearest f) then (x.val : Int) else 1024 := fun x => by
    split
    · exact toInt_small _ (by omega)
    · decide
  simp only [e]
  have hn := (nearest f).isLt
  refine le_antisymm (Finset.fold_min_le _ |>.2 (.inr ⟨nearest f, Finset.mem_univ _, by rw [if_pos rfl]⟩)) ?_
  refine Finset.le_fold_min _ |>.2 ⟨?_, fun x _ => ?_⟩
  · have : (2147483647#32).toInt = 2147483647 := by decide
    omega
  · split
    · next h =>
      have := nearest_first f x fun i => h ▸ nearest_le f i
      have : (nearest f).val ≤ x.val := this
      omega
    · omega

/-- A value with its index, compared by value and then by index. -/
def key (p : EReal × BitVec 32) : EReal ×ₗ Int := toLex (p.1, p.2.toInt)

/-- A fold that keeps the lesser of two pairs is below every pair, and is one of them. -/
theorem foldl_key (g : EReal × BitVec 32 → EReal × BitVec 32 → EReal × BitVec 32) (hg : ∀ a b, key (g a b) = min (key a) (key b))
    (L : List (EReal × BitVec 32)) (a : EReal × BitVec 32) :
    (∀ p ∈ a :: L, key (L.foldl g a) ≤ key p) ∧ ∃ p ∈ a :: L, key (L.foldl g a) = key p := by
  induction L generalizing a with
  | nil => exact ⟨by simp, a, by simp⟩
  | cons b L ih =>
    rw [List.foldl_cons]
    obtain ⟨h1, p, hp, h2⟩ := ih (g a b)
    have hgab := h1 (g a b) (by simp)
    rw [hg] at hgab
    refine ⟨fun q hq => ?_, ?_⟩
    · rcases List.mem_cons.1 hq with rfl | hq
      · exact hgab.trans (min_le_left _ _)
      · rcases List.mem_cons.1 hq with rfl | hq
        · exact hgab.trans (min_le_right _ _)
        · exact h1 q (List.mem_cons_of_mem _ hq)
    · rcases List.mem_cons.1 hp with rfl | hp
      · rw [h2, hg]
        rcases min_choice (key a) (key b) with h | h
        · exact ⟨a, by simp, h⟩
        · exact ⟨b, by simp, h⟩
      · exact ⟨p, by simp [hp], h2⟩

/-- The fold over the pairs of a family's values and indices, from infinity at index zero, ends with the index `nearest f`. -/
theorem foldl_nearest (g : EReal × BitVec 32 → EReal × BitVec 32 → EReal × BitVec 32)
    (hg : ∀ a b, key (g a b) = min (key a) (key b)) (f : Fin 1024 → EReal) (L : List (EReal × BitVec 32))
    (hL : ∀ p ∈ L, ∃ k : Fin 1024, p = (f k, BitVec.ofNat 32 k.val)) (hall : ∀ k : Fin 1024, (f k, BitVec.ofNat 32 k.val) ∈ L) :
    (L.foldl g (⊤, 0#32)).2 = BitVec.ofNat 32 (nearest f).val := by
  obtain ⟨h1, p, hp, h2⟩ := foldl_key g hg L (⊤, 0#32)
  have hn := (nearest f).isLt
  have e : key (L.foldl g (⊤, 0#32)) = key (f (nearest f), BitVec.ofNat 32 (nearest f).val) := by
    refine le_antisymm (h1 _ (List.mem_cons_of_mem _ (hall _))) ?_
    rw [h2]
    refine Prod.Lex.toLex_le_toLex.2 ?_
    rcases List.mem_cons.1 hp with rfl | hp
    · rcases lt_or_eq_of_le (le_top : f (nearest f) ≤ ⊤) with h | h
      · exact .inl h
      · have h0 : nearest f ≤ 0 := nearest_first f 0 fun i => by
          have := nearest_le f i
          rw [h, top_le_iff] at this
          rw [this]; exact le_top
        have h0' : (nearest f).val = 0 := Nat.le_zero.1 h0
        exact .inr ⟨h, by rw [h0']⟩
    · obtain ⟨k, rfl⟩ := hL p hp
      rcases lt_or_eq_of_le (nearest_le f k) with h | h
      · exact .inl h
      · refine .inr ⟨h, ?_⟩
        have hk : (nearest f).val ≤ k.val := nearest_first f k fun i => h ▸ nearest_le f i
        show (BitVec.ofNat 32 (nearest f).val).toInt ≤ (BitVec.ofNat 32 k.val).toInt
        rw [toInt_small _ (by omega), toInt_small _ (by omega)]
        omega
  exact BitVec.eq_of_toInt_eq (congrArg (fun q : EReal ×ₗ Int => (ofLex q).2) e)

/-! ## A row of zeros and a one -/

/-- The comparison of two small numbers as a float: one where they agree, zero elsewhere. -/
theorem mark_eq (k n : Fin 1024) :
    FloatOps.sitofp (F := Ideal) .f32 (BitVec.setWidth 32 (IntOp.cmpi .eq (BitVec.ofNat 32 k.val) (BitVec.ofNat 32 n.val)))
      = (if k = n then 1 else 0 : EReal) := by
  have h : BitVec.ofNat 32 k.val = BitVec.ofNat 32 n.val ↔ k = n := by
    refine ⟨fun e => Fin.ext ?_, fun e => e ▸ rfl⟩
    have := congrArg BitVec.toNat e
    simp only [BitVec.toNat_ofNat] at this
    omega
  show ((((BitVec.setWidth 32 (IntOp.cmpi .eq (BitVec.ofNat 32 k.val) (BitVec.ofNat 32 n.val))).toInt : Int) : ℝ) : EReal) = _
  by_cases e : k = n
  · subst e
    simp [IntOp.cmpi]
  · have : (BitVec.ofNat 32 k.val == BitVec.ofNat 32 n.val) = false := by
      simpa using fun q => e (h.1 q)
    simp [IntOp.cmpi, this, e]

/-- A sum against a row of zeros and a one picks the entry at the one. -/
theorem sum_mark (n : Fin 1024) (g : Fin 1024 → EReal) : ∑ k, (if k = n then 1 else 0 : EReal) * g k = g n := by
  rw [Finset.sum_eq_single n]
  · rw [if_pos rfl, one_mul]
  · intro k _ h
    rw [if_neg h, zero_mul]
  · intro h
    exact (h (Finset.mem_univ _)).elim

/-! ## The loss -/

/-- A square is not negative. -/
theorem mul_self_nonneg' (x : EReal) : 0 ≤ x * x := by
  rcases le_total 0 x with h | h
  · exact mul_nonneg h h
  · have h' : 0 ≤ -x := EReal.neg_nonneg.2 h
    have := mul_nonneg h' h'
    rwa [neg_mul_neg] at this

/-- A float pattern of a positive power of two inverse. -/
theorem ofBits_w20 : Ideal.ofBits .f32 0x35800000#32 = (((1 : ℝ) / 1048576 : ℝ) : EReal) := by
  simp [Ideal.ofBits, Ideal.ieee, -EReal.coe_mul]; norm_num
/-- A float pattern of a power of two. -/
theorem ofBits_p20 : Ideal.ofBits .f32 0x49800000#32 = ((1048576 : ℝ) : EReal) := by
  simp [Ideal.ofBits, Ideal.ieee, -EReal.coe_mul]; norm_num
/-- A float pattern of a power of two inverse. -/
theorem ofBits_w14 : Ideal.ofBits .f32 0x38800000#32 = (((1 : ℝ) / 16384 : ℝ) : EReal) := by
  simp [Ideal.ofBits, Ideal.ieee, -EReal.coe_mul]; norm_num
/-- A float pattern of a power of two. -/
theorem ofBits_p14 : Ideal.ofBits .f32 0x46800000#32 = ((16384 : ℝ) : EReal) := by
  simp [Ideal.ofBits, Ideal.ieee, -EReal.coe_mul]; norm_num
/-- The pattern of a quarter. -/
theorem ofBits_quarter : Ideal.ofBits .f32 0x3E800000#32 = (((1 : ℝ) / 4 : ℝ) : EReal) := by
  simp [Ideal.ofBits, Ideal.ieee, -EReal.coe_mul]; norm_num
/-- The pattern of one and a quarter. -/
theorem ofBits_five_quarters : Ideal.ofBits .f32 0x3FA00000#32 = (((5 : ℝ) / 4 : ℝ) : EReal) := by
  simp [Ideal.ofBits, Ideal.ieee, -EReal.coe_mul]; norm_num
/-- The pattern nearest a tenth is not negative. -/
theorem ofBits_tenth_nonneg : 0 ≤ Ideal.ofBits .f32 0x3DCCCCCD#32 := by
  have : Ideal.ofBits .f32 0x3DCCCCCD#32 = (((13421773 : ℝ) / 134217728 : ℝ) : EReal) := by
    simp [Ideal.ofBits, Ideal.ieee, -EReal.coe_mul]; norm_num
  rw [this]
  exact EReal.coe_nonneg.2 (by norm_num)

/-- Division by a positive real is multiplication by its inverse. -/
theorem div_coe (x : EReal) (r : ℝ) (h : 0 < r) : Ideal.div x (r : EReal) = x * (((1 : ℝ) / r : ℝ) : EReal) := by
  have h0 : (r : EReal) ≠ 0 := by exact_mod_cast h.ne'
  rw [Ideal.div, if_neg h0, one_div, EReal.coe_inv]

/-- The weighted sum scaled once is the weighted sum of the scaled terms. -/
theorem loss_eq (a b : EReal) (ha : 0 ≤ a) (hb : 0 ≤ b) :
    (Ideal.ofBits .f32 0x3FA00000#32 * a + Ideal.ofBits .f32 0x3DCCCCCD#32 * b) * Ideal.ofBits .f32 0x35800000#32
      = Ideal.div a (Ideal.ofBits .f32 0x49800000#32) + Ideal.ofBits .f32 0x3E800000#32 * Ideal.div a (Ideal.ofBits .f32 0x49800000#32)
        + Ideal.ofBits .f32 0x3DCCCCCD#32 * Ideal.div b (Ideal.ofBits .f32 0x49800000#32) := by
  have ht := ofBits_tenth_nonneg
  rw [ofBits_p20, div_coe _ _ (by norm_num), div_coe _ _ (by norm_num), ofBits_w20, ofBits_quarter, ofBits_five_quarters]
  generalize Ideal.ofBits .f32 0x3DCCCCCD#32 = t at *
  have hq : (0 : EReal) ≤ (((1 : ℝ) / 4 : ℝ) : EReal) := EReal.coe_nonneg.2 (by norm_num)
  have h5 : (((5 : ℝ) / 4 : ℝ) : EReal) = 1 + (((1 : ℝ) / 4 : ℝ) : EReal) := by
    rw [← EReal.coe_one, ← EReal.coe_add]; norm_num
  rw [h5, EReal.right_distrib_of_nonneg zero_le_one hq, one_mul, EReal.right_distrib_of_nonneg (add_nonneg ha (mul_nonneg hq ha))
    (mul_nonneg ht hb), EReal.right_distrib_of_nonneg ha (mul_nonneg hq ha), mul_assoc, mul_assoc]

/-! ## The shares -/

/-- A small count as a signed word and then a float. -/
theorem sitofp_small (n : Nat) (h : n < 2 ^ 31) : FloatOps.sitofp (F := Ideal) .f32 (BitVec.ofNat 32 n) = (n : EReal) := by
  show (((BitVec.ofNat 32 n).toInt : ℝ) : EReal) = _
  rw [toInt_small n h]
  simp

/-- A sum of ones and zeros counts the ones. -/
theorem sum_ones {ι : Type} [Fintype ι] (p : ι → Prop) [DecidablePred p] :
    ∑ i, (if p i then 1 else 0 : EReal) = ((Finset.univ.filter p).card : EReal) := by
  rw [Finset.sum_boole]

/-- A share as a quotient and as a product. -/
theorem share_eq (x : EReal) : Ideal.div x (Ideal.ofBits .f32 0x46800000#32) = x * Ideal.ofBits .f32 0x38800000#32 := by
  rw [ofBits_p14, div_coe _ _ (by norm_num), ofBits_w14]

end Cert.Arith
end
-- ==== Proof.Blocks.lean ====
/-
  The blocks that the kernel's body reads at a grid point, entry by entry, as functions of the arguments: rows `512 t` to
  `512 t + 511` of the code vectors, of the sums of their squares and of the classes, and the whole of the other arrays.
-/
module

public import proofs.«01_k».proof.Proof.Entry
public import proofs.«01_k».proof.Proof.Arith
public import Idealize.ShloMosaic.Lib.Pipeline.ValueKit

@[expose] public section

set_option maxRecDepth 16384

noncomputable section

namespace Cert.KernelIdeal.Blocks

open Cert.KernelIdeal Cert.KernelIdeal.Gen Cert.KernelIdeal.Entry Idealize.ShloMosaic Idealize.ShloMosaic.TcCoe Idealize.SL.Sem
open Idealize.ShloMosaic.StableHlo
open Cert.ReferenceIdeal.RefRun (Arr encode)

variable (m : (ℓ : Loc nD τ sig) → Buf (Elt Ideal) ℓ)

/-! ## The arrays at the region's start -/

/-- The code vectors of the arguments. -/
abbrev codes (c : Dev nD) : Arr Ideal S16384x64 .f32 :=
  encode (F := Ideal) (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The codebook. -/
abbrev book (c : Dev nD) : Arr Ideal S1024x64 .f32 := m ((c : Thread nD τ).loc main_arg8)

/-- The squares of an array's entries. -/
abbrev squares {S : Shape} (z : FVec Ideal S .f32) : FVec Ideal S .f32 := mulf z z

/-- The region starts with the code vectors. -/
theorem V_codes (c : Dev nD) : V m c main_v13 = codes m c := by
  show after line (fun b => m (c, b)) (Proc.devRef .tc main_v13) = _
  rw [line_parts, last_keep _ _ (by decide), book_keep _ _ (by decide), row_keep _ _ (by decide), enc_v13]

/-- The region starts with the sums of the code vectors' squares. -/
theorem V_rowTree (c : Dev nD) : V m c main_v38 = rowTree (F := Ideal) (squares (S := S16384x64) (codes m c)) := by
  show after line (fun b => m (c, b)) (Proc.devRef .tc main_v38) = _
  rw [line_parts, last_keep _ _ (by decide), book_keep _ _ (by decide), row_v38, enc_v13]

/-- The region starts with the sums of the codebook's squares. -/
theorem V_bookTree (c : Dev nD) : V m c main_v64 = bookTree (F := Ideal) (squares (S := S1024x64) (book m c)) := by
  show after line (fun b => m (c, b)) (Proc.devRef .tc main_v64) = _
  rw [line_parts, last_keep _ _ (by decide), book_v64, row_keep _ _ (by decide), enc_keep _ _ (by decide)]

/-- A sum of eight terms, taken by halves. -/
theorem halves (a b c d e f g h : EReal) : a + b + c + d + e + f + g + h = ((a + e) + (c + g)) + ((b + f) + (d + h)) := by ac_rfl

/-- A sum of 64 terms, taken in eight groups of eight and then by halves. -/
theorem sum_tree (f : Fin 64 → EReal) : ∑ x, f x =
    (((f 0+f 8+f 16+f 24+f 32+f 40+f 48+f 56)+(f 4+f 12+f 20+f 28+f 36+f 44+f 52+f 60))+((f 2+f 10+f 18+f 26+f 34+f 42+f 50+f 58)+(f 6+f 14+f 22+f 30+f 38+f 46+f 54+f 62)))
    +(((f 1+f 9+f 17+f 25+f 33+f 41+f 49+f 57)+(f 5+f 13+f 21+f 29+f 37+f 45+f 53+f 61))+((f 3+f 11+f 19+f 27+f 35+f 43+f 51+f 59)+(f 7+f 15+f 23+f 31+f 39+f 47+f 55+f 63))) := by
  rw [← (finProdFinEquiv (m := 8) (n := 8)).sum_comp f, Fintype.sum_prod_type_right]
  simp only [Fin.sum_univ_eight]
  exact halves _ _ _ _ _ _ _ _

/-- The tree of a row is its sum. -/
theorem rowTree_eq (w : Arr Ideal S16384x64 .f32) (r : Fin 16384) : rowTree (F := Ideal) w (ix2 r 0) = ∑ x : Fin 64, w (ix2 r x) := by
  rw [sum_tree]
  pointwise [rowTree]

/-- The tree of a row of the codebook is its sum. -/
theorem bookTree_eq (w : Arr Ideal S1024x64 .f32) (k : Fin 1024) : bookTree (F := Ideal) w (ix2 0 k) = ∑ x : Fin 64, w (ix2 k x) := by
  rw [sum_tree]
  pointwise [bookTree]

/-! ## The blocks -/

/-- Row `r` of point `t`'s block of rows. -/
abbrev rowOf (t : Fin cfg0.N) (r : Fin 512) : Fin 16384 := ⟨512 * t.val + r.val, by have h := t.isLt; have e : cfg0.N = 32 := N_0; have := r.isLt; omega⟩

/-- Where each input window reads at each point. -/
theorem index : ∀ t : Fin cfg0.N, win0_0.index t = ![t.val, 0] ∧ win0_1.index t = ![t.val, 0] ∧ win0_2.index t = ![t.val] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] := (by decide +kernel : ∀ t : Fin cfg0.N, _)

/-- Point `t` reads its 512 code vectors. -/
theorem blk_codes (c : Dev nD) (t : Fin cfg0.N) (r : Fin 512) (d : Fin 64) : iblk m c 0 t (ix2 r d) = codes m c (ix2 (rowOf t r) d) := by
  rw [← V_codes]
  blk_ext [iblk, index t]

/-- Point `t` reads the sums of its code vectors' squares. -/
theorem blk_zz (c : Dev nD) (t : Fin cfg0.N) (r : Fin 512) :
    iblk m c 1 t (ix2 r 0) = ∑ x : Fin 64, codes m c (ix2 (rowOf t r) x) * codes m c (ix2 (rowOf t r) x) := by
  have h : iblk m c 1 t (ix2 r 0) = V m c main_v38 (ix2 (rowOf t r) 0) := by blk_ext [iblk, index t]
  rw [h, V_rowTree, rowTree_eq]
  rfl

/-- Point `t` reads its 512 classes. -/
theorem blk_y (c : Dev nD) (t : Fin cfg0.N) (r : Fin 512) : iblk m c 2 t (ix1 r) = m ((c : Thread nD τ).loc main_arg1) (ix1 (rowOf t r)) := by
  rw [← V_main_arg1 m c]
  blk_ext [iblk, index t]

/-- Every point reads the sums of the codebook's squares. -/
theorem blk_ee (c : Dev nD) (t : Fin cfg0.N) (k : Fin 1024) :
    iblk m c 3 t (ix2 0 k) = ∑ x : Fin 64, book m c (ix2 k x) * book m c (ix2 k x) := by
  have h : iblk m c 3 t (ix2 0 k) = V m c main_v64 (ix2 0 k) := by blk_ext [iblk, index t]
  rw [h, V_bookTree, bookTree_eq]
  rfl

/-- Every point reads the transposed codebook. -/
theorem blk_ebt (c : Dev nD) (t : Fin cfg0.N) (x : Fin 64) (k : Fin 1024) : iblk m c 4 t (ix2 x k) = book m c (ix2 k x) := by
  have h : iblk m c 4 t (ix2 x k) = V m c main_v67 (ix2 x k) := by blk_ext [iblk, index t]
  rw [h]
  show after line (fun b => m (c, b)) (Proc.devRef .tc main_v67) (ix2 x k) = _
  rw [line_parts, last_v67, book_keep _ _ (by decide), row_keep _ _ (by decide), enc_keep _ _ (by decide)]
  pointwise

/-- Every point reads the codebook. -/
theorem blk_book (c : Dev nD) (t : Fin cfg0.N) (k : Fin 1024) (x : Fin 64) : iblk m c 5 t (ix2 k x) = book m c (ix2 k x) := by
  blk_ext [iblk, V_main_arg8, index t]

/-- Every point reads the decoder's first matrix. -/
theorem blk_V1 (c : Dev nD) (t : Fin cfg0.N) (k : Fin 64) (x : Fin 512) : iblk m c 6 t (ix2 k x) = m ((c : Thread nD τ).loc main_arg9) (ix2 k x) := by
  blk_ext [iblk, V_main_arg9, index t]

/-- Every point reads the decoder's first bias. -/
theorem blk_c1 (c : Dev nD) (t : Fin cfg0.N) (x : Fin 512) : iblk m c 7 t (ix2 0 x) = m ((c : Thread nD τ).loc main_arg10) (ix1 x) := by
  have h : iblk m c 7 t (ix2 0 x) = V m c main_v68 (ix2 0 x) := by blk_ext [iblk, index t]
  rw [h]
  show after line (fun b => m (c, b)) (Proc.devRef .tc main_v68) (ix2 0 x) = _
  rw [line_parts, last_v68, book_keep _ _ (by decide), row_keep _ _ (by decide), enc_keep _ _ (by decide)]
  pointwise

/-- Every point reads the decoder's second matrix. -/
theorem blk_V2 (c : Dev nD) (t : Fin cfg0.N) (k : Fin 512) (x : Fin 1024) : iblk m c 8 t (ix2 k x) = m ((c : Thread nD τ).loc main_arg11) (ix2 k x) := by
  blk_ext [iblk, V_main_arg11, index t]

/-- Every point reads the decoder's second bias. -/
theorem blk_c2 (c : Dev nD) (t : Fin cfg0.N) (x : Fin 1024) : iblk m c 9 t (ix2 0 x) = m ((c : Thread nD τ).loc main_arg12) (ix1 x) := by
  have h : iblk m c 9 t (ix2 0 x) = V m c main_v69 (ix2 0 x) := by blk_ext [iblk, index t]
  rw [h]
  show after line (fun b => m (c, b)) (Proc.devRef .tc main_v69) (ix2 0 x) = _
  rw [line_parts, last_v69, book_keep _ _ (by decide), row_keep _ _ (by decide), enc_keep _ _ (by decide)]
  pointwise

/-- Every point reads the decoder's third matrix. -/
theorem blk_V3 (c : Dev nD) (t : Fin cfg0.N) (k : Fin 1024) (x : Fin 512) : iblk m c 10 t (ix2 k x) = m ((c : Thread nD τ).loc main_arg13) (ix2 k x) := by
  blk_ext [iblk, V_main_arg13, index t]

/-- Every point reads the decoder's third bias. -/
theorem blk_c3 (c : Dev nD) (t : Fin cfg0.N) (x : Fin 512) : iblk m c 11 t (ix2 0 x) = m ((c : Thread nD τ).loc main_arg14) (ix1 x) := by
  have h : iblk m c 11 t (ix2 0 x) = V m c main_v70 (ix2 0 x) := by blk_ext [iblk, index t]
  rw [h]
  show after line (fun b => m (c, b)) (Proc.devRef .tc main_v70) (ix2 0 x) = _
  rw [line_parts, last_v70, book_keep _ _ (by decide), row_keep _ _ (by decide), enc_keep _ _ (by decide)]
  pointwise

end Cert.KernelIdeal.Blocks
end
-- ==== Proof.Payload.lean ====
/-
  The values that the kernel's body computes, entry by entry, as functions of the arrays it computes them from.
-/
module

public import proofs.«01_k».proof.Proof.Point
public import proofs.«01_k».proof.Proof.Blocks
public import Idealize.ShloMosaic.Lib.Pointwise.IndexBridge

@[expose] public section

set_option maxRecDepth 16384

noncomputable section

namespace Cert.KernelIdeal.Payload

open Cert.KernelIdeal Cert.KernelIdeal.Gen Cert.KernelIdeal.Blocks Cert.KernelIdeal.Point Cert.Arith Idealize.ShloMosaic Idealize.ShloMosaic.TcCoe Idealize.SL.Sem

/-! ## Over any blocks -/

/-- The choice of a row: the first codebook row at the least distance. -/
theorem pick_at (z : Vec Ideal S512x64 .f32) (e : Vec Ideal S64x1024 .f32) (zz : Vec Ideal S512x1 .f32) (ee : Vec Ideal S1x1024 .f32) (r : Fin 512) :
    k0_pay6 z e zz ee (ix1 r) = BitVec.ofNat 32 (nearest fun k : Fin 1024 =>
      zz (ix2 r 0) + ee (ix2 0 k) - Ideal.ofBits .f32 1073741824#32 * ∑ x : Fin 64, z (ix2 r x) * e (ix2 x k)).val := by
  rw [← fold_minsi_eq]
  pointwise [k0_pay6, k0_pay5]

/-- The choice of a row as zeros and a one. -/
theorem mark_at (z : Vec Ideal S512x64 .f32) (e : Vec Ideal S64x1024 .f32) (zz : Vec Ideal S512x1 .f32) (ee : Vec Ideal S1x1024 .f32) (r : Fin 512)
    (n : Fin 1024) (h : k0_pay6 z e zz ee (ix1 r) = BitVec.ofNat 32 n.val) (k : Fin 1024) :
    k0_pay7 z e zz ee (ix2 r k) = (if k = n then 1 else 0 : EReal) := by
  rw [← mark_eq, ← h]
  pointwise [k0_pay7]

/-- The codebook row chosen for a row. -/
theorem row_at (z : Vec Ideal S512x64 .f32) (e : Vec Ideal S64x1024 .f32) (zz : Vec Ideal S512x1 .f32) (ee : Vec Ideal S1x1024 .f32)
    (E : Vec Ideal S1024x64 .f32) (r : Fin 512) (n : Fin 1024) (h : k0_pay6 z e zz ee (ix1 r) = BitVec.ofNat 32 n.val) (d : Fin 64) :
    k0_pay8 z e zz ee E (ix2 r d) = E (ix2 n d) := by
  have e : k0_pay8 z e zz ee E (ix2 r d) = ∑ k : Fin 1024, k0_pay7 z e zz ee (ix2 r k) * E (ix2 k d) := by pointwise [k0_pay8]
  rw [e]
  simp only [mark_at z _ zz ee r n h]
  exact sum_mark n fun k => E (ix2 k d)

/-- The first sum grows by the squares of the chosen rows less the code vectors. -/
theorem fit_at (z q : Vec Ideal S512x64 .f32) (s : EReal) :
    k0_pay10 (F := Ideal) z q s = s + ∑ r : Fin 512, ∑ d : Fin 64, (q (ix2 r d) - z (ix2 r d)) * (q (ix2 r d) - z (ix2 r d)) := by
  pointwise [k0_pay10, k0_pay9, k0_pay5]

/-- The second sum grows by the squares of the code vectors less the classes' rows. -/
theorem sup_at (z : Vec Ideal S512x64 .f32) (E : Vec Ideal S1024x64 .f32) (y : Vec Ideal S512 .i32) (g : Fin 512 → Fin 1024)
    (h : ∀ r, y (ix1 r) = BitVec.ofNat 32 (g r).val) (s : EReal) :
    k0_pay11 (F := Ideal) z (iota .tc S512x1024 32 [1] iota_S512x1024_d1_w32) E y s
      = s + ∑ r : Fin 512, ∑ d : Fin 64, (z (ix2 r d) - E (ix2 (g r) d)) * (z (ix2 r d) - E (ix2 (g r) d)) := by
  pointwise [k0_pay11, k0_pay5]
  have e : ∀ (n : Fin 1024) (d : Fin 64), ∑ k : Fin 1024, (if k = n then 1 else 0 : EReal) * E (ix2 k d) = E (ix2 n d) :=
    fun n d => sum_mark n fun k => E (ix2 k d)
  simp only [h, mark_eq, e]

/-- The tally grows by the sums down the columns. -/
theorem tally_at (u : Vec Ideal S512x1024 .f32) (v : Vec Ideal S1x1024 .f32) (k : Fin 1024) :
    k0_pay12 u v (ix2 0 k) = v (ix2 0 k) + ∑ r : Fin 512, u (ix2 r k) := by
  pointwise [k0_pay12]

/-- The tally starts at zero. -/
theorem tally_zero (k : Fin 1024) : k0_pay4 (F := Ideal) (ix2 0 k) = 0 := by
  pointwise [k0_pay4]

/-- The loss of the two sums. -/
theorem loss_at (a b : EReal) : k0_pay2 (F := Ideal) a b (ix2 0 0)
    = (Ideal.ofBits .f32 1067450368#32 * a + Ideal.ofBits .f32 1036831949#32 * b) * Ideal.ofBits .f32 897581056#32 := by
  pointwise [k0_pay2]

/-- The perplexity of the tally. -/
theorem perp_at (v : Vec Ideal S1x1024 .f32) : k0_pay3 v (ix2 0 0)
    = Ideal.exp (0 - ∑ k : Fin 1024, v (ix2 0 k) * Ideal.ofBits .f32 947912704#32 * Ideal.log (v (ix2 0 k) * Ideal.ofBits .f32 947912704#32 + Ideal.ofBits .f32 786163455#32)) := by
  pointwise [k0_pay3]
  simp only [Finset.univ_unique, Finset.sum_singleton]
  rfl

/-- The reconstruction of a row. -/
theorem recon_at (z q : Vec Ideal S512x64 .f32) (V1 : Vec Ideal S64x512 .f32) (c1 : Vec Ideal S1x512 .f32) (V2 : Vec Ideal S512x1024 .f32)
    (c2 : Vec Ideal S1x1024 .f32) (V3 : Vec Ideal S1024x512 .f32) (c3 : Vec Ideal S1x512 .f32) (r j : Fin 512) :
    k0_pay1 (k0_pay13 z q V1 c1) k0_pay14 V2 c2 V3 c3 (ix2 r j)
      = (∑ w : Fin 1024, max ((∑ v : Fin 512, max ((∑ u : Fin 64, (z (ix2 r u) + (q (ix2 r u) - z (ix2 r u))) * V1 (ix2 u v)) + c1 (ix2 0 v)) 0 * V2 (ix2 v w))
          + c2 (ix2 0 w)) 0 * V3 (ix2 w j)) + c3 (ix2 0 j) := by
  pointwise [k0_pay1, k0_pay13, k0_pay5, k0_pay9, k0_pay14]

end Cert.KernelIdeal.Payload
end
-- ==== Proof.RefVal.lean ====
/-
  The reference's steps read at an index: the distances, the index of the least one, the codebook's rows at given indices,
  the counts of the indices, and the loss, the perplexity and the reconstruction as sums.
-/
module

public import proofs.«01_k».proof.Proof.RefRun
public import proofs.«01_k».proof.Proof.Arith
public import Idealize.ShloMosaic.Lib.Routing.OpsPair
public import Idealize.ShloMosaic.Lib.Routing.Ops
public import Idealize.ShloMosaic.Lib.Routing.OpsOrder
public import Idealize.ShloMosaic.Lib.ReduceAll
public import Idealize.ShloMosaic.Lib.Pointwise.IndexBridge

@[expose] public section

set_option maxRecDepth 16384

noncomputable section

namespace Cert.ReferenceIdeal.RefVal

open Cert.ReferenceIdeal Cert.ReferenceIdeal.Gen Cert.ReferenceIdeal.RefRun Idealize.ShloMosaic Cert.Arith

/-! ## The index of the least distance -/

/-- The body of the index reduction keeps the lesser pair. -/
theorem key_reducer (a b : EReal × BitVec 32) : key (reducer_argmin_f32_i32 (F := Ideal) a b) = min (key a) (key b) := by
  obtain ⟨x, i⟩ := a
  obtain ⟨y, j⟩ := b
  have h1 : ∀ z : BitVec 1, 1#1 ||| z = 1#1 := by decide
  have hs : IntOp.cmpi .slt i j = BitVec.ofBool (decide (i.toInt < j.toInt)) := rfl
  rcases lt_trichotomy x y with h | h | h
  · have : key (x, i) < key (y, j) := Prod.Lex.toLex_lt_toLex.2 (.inl h)
    rw [min_eq_left this.le]
    simp [reducer_argmin_f32_i32, Ideal.cmpf_def, Ideal.cmp, h, h1, IntOp.ori, IntOp.andi, Scalar.select]
  · subst h
    by_cases hij : i.toInt < j.toInt
    · have : key (x, i) < key (x, j) := Prod.Lex.toLex_lt_toLex.2 (.inr ⟨rfl, hij⟩)
      rw [min_eq_left this.le]
      simp [reducer_argmin_f32_i32, Ideal.cmpf_def, Ideal.cmp, hs, hij, IntOp.ori, IntOp.andi, Scalar.select]
    · have : key (x, j) ≤ key (x, i) := Prod.Lex.toLex_le_toLex.2 (.inr ⟨rfl, not_lt.1 hij⟩)
      rw [min_eq_right this]
      simp [reducer_argmin_f32_i32, Ideal.cmpf_def, Ideal.cmp, hs, hij, IntOp.ori, IntOp.andi, Scalar.select]
  · have : key (y, j) < key (x, i) := Prod.Lex.toLex_lt_toLex.2 (.inl h)
    rw [min_eq_right this.le]
    simp [reducer_argmin_f32_i32, Ideal.cmpf_def, Ideal.cmp, not_lt.2 h.le, h.ne', IntOp.ori, IntOp.andi, Scalar.select]

/-- The pairs that a reduction along the rows folds at row `r` are that row's. -/
theorem mem_fiber {N M : Nat} {α β : Type} (x : (⟨2, ![N, M]⟩ : Shape).Idx → α) (y : (⟨2, ![N, M]⟩ : Shape).Idx → β)
    (h : (⟨2, ![N, M]⟩ : Shape).ReducesTo [1] ⟨1, ![N]⟩) (r : Fin N) (p : α × β) :
    p ∈ Host.argReduceFiber x y h (ix1 r) ↔ ∃ k : Fin M, (x (ix2 r k), y (ix2 r k)) = p := by
  unfold Host.argReduceFiber
  rw [List.mem_map]
  constructor
  · rintro ⟨n, hn, rfl⟩
    obtain ⟨k, hk⟩ := (h.fiber_r2_a1 _ _).1 (of_decide_eq_true (List.mem_filter.1 hn).2)
    refine ⟨k, ?_⟩
    rw [← hk]
    rfl
  · rintro ⟨k, rfl⟩
    refine ⟨(⟨2, ![N, M]⟩ : Shape).rowMajor (ix2 r k), List.mem_filter.2 ⟨List.mem_finRange _, decide_eq_true ?_⟩, ?_⟩
    · rw [Equiv.symm_apply_apply]
      exact (h.fiber_r2_a1 _ _).2 ⟨k, rfl⟩
    · rw [Equiv.symm_apply_apply]

/-- An index reduction along the rows, from infinity at index zero, gives the first index at which a row is least. -/
theorem argmin_row {N : Nat} {u : Shape} (g : EReal × BitVec 32 → EReal × BitVec 32 → EReal × BitVec 32)
    (hg : ∀ a b, key (g a b) = min (key a) (key b)) (d : FVec Ideal ⟨2, ![N, 1024]⟩ .f32) (y : IVec ⟨2, ![N, 1024]⟩ 32)
    (ix : FVec Ideal u .f32) (iy : IVec u 32) (h : (⟨2, ![N, 1024]⟩ : Shape).ReducesTo [1] ⟨1, ![N]⟩) (hu : 0 < u.numel) (r : Fin N)
    (hy : ∀ k : Fin 1024, y (ix2 r k) = BitVec.ofNat 32 k.val) (hix : ix (Shape.Idx.first hu) = (⊤ : EReal))
    (hiy : iy (Shape.Idx.first hu) = 0#32) :
    (Host.argReduce (F := Ideal) (φ := .f32) g d y ix iy h hu (ix1 r)).2 = BitVec.ofNat 32 (nearest fun k => d (ix2 r k)).val := by
  rw [Ideal.argReduce_eq_reduce2, Host.reduce2_eq_foldl_fiber, hix, hiy]
  refine foldl_nearest g hg (fun k => d (ix2 r k)) _ (fun p hp => ?_) fun k => ?_
  · obtain ⟨k, hk⟩ := (mem_fiber d y h r p).1 hp
    exact ⟨k, by rw [← hk, hy]⟩
  · exact (mem_fiber d y h r _).2 ⟨k, by rw [hy]⟩

/-- `leastAt`'s text, as an equation between functions. -/
theorem leastAt_text : leastAt (F := Ideal) = fun d j =>
    (Host.argReduce (reducer_argmin_f32_i32 (F := Ideal)) d (iotaInDim S16384x1024 32 1) (constant (F := Ideal) S_ .f32 0x7F800000#32)
      (constantI S_ 32 0#32) reducesTo_S16384x1024_S16384_d1 h_S_ j).2 := rfl

/-- The index reduction of row `r` gives the first index at which that row is least. -/
theorem leastAt_eq (d : Arr Ideal S16384x1024 .f32) (r : Fin 16384) :
    leastAt (F := Ideal) d (ix1 r) = BitVec.ofNat 32 (nearest fun k => d (ix2 r k)).val := by
  rw [leastAt_text]
  refine argmin_row (N := 16384) (reducer_argmin_f32_i32 (F := Ideal)) key_reducer d (iotaInDim S16384x1024 32 1)
    (constant (F := Ideal) S_ .f32 0x7F800000#32) (constantI S_ 32 0#32) reducesTo_S16384x1024_S16384_d1 h_S_ r (fun k => ?_) ?_ ?_
  · pointwise
  · exact ofBits_top
  · rfl

/-! ## Rows at indices -/

/-- A small index is left as it is. -/
theorem wrapped_eq (i : Arr Ideal S16384 .i32) (r : Fin 16384) (n : Nat) (hn : n < 2 ^ 31) (h : i (ix1 r) = BitVec.ofNat 32 n) :
    wrapped (F := Ideal) i (ix2 r 0) = BitVec.ofNat 32 n := by
  pointwise [wrapped]
  rw [h]
  have : IntOp.cmpi .slt (BitVec.ofNat 32 n) 0#32 = 0#1 := by
    show BitVec.ofBool (decide ((BitVec.ofNat 32 n).toInt < (0#32).toInt)) = 0#1
    rw [toInt_small n hn, decide_eq_false (by simp)]
    rfl
  rw [this]
  rfl

/-- The row taken at an index in range is the codebook's row there. -/
theorem rowsAt_eq (E : Arr Ideal S1024x64 .f32) (i : Arr Ideal S16384 .i32) (r : Fin 16384) (b : Fin 1024)
    (h : i (ix1 r) = BitVec.ofNat 32 b.val) (d : Fin 64) : rowsAt (F := Ideal) E i (ix2 r d) = E (ix2 b d) := by
  have hb := b.isLt
  have hw := wrapped_eq i r b.val (by omega) h
  have hg : Host.gather gather_S1024x64_S16384x1_S16384x64_1_0_n_n_0_1_164 E (wrapped (F := Ideal) i) (ix2 r d) = E (ix2 b d) := by
    rw [ix2_eq_valueIdx, ix2_eq_valueIdx]
    exact Routing.gather_row (nb := 1024) (B := 64) (n := 16384) gather_S1024x64_S16384x1_S16384x64_1_0_n_n_0_1_164 rfl rfl rfl rfl rfl E _ r d b
      (by rw [← ix2_eq_valueIdx]; exact hw) (by omega)
  pointwise [rowsAt]
  have hin : IntOp.andi (IntOp.cmpi .sge (wrapped (F := Ideal) i (ix2 r 0)) 0#32)
      (IntOp.cmpi .sle (wrapped (F := Ideal) i (ix2 r 0)) 1023#32) = 1#1 := by
    rw [hw]
    have h1 : IntOp.cmpi .sge (BitVec.ofNat 32 b.val) 0#32 = 1#1 := by
      show BitVec.ofBool (decide ((0#32).toInt ≤ (BitVec.ofNat 32 b.val).toInt)) = 1#1
      rw [toInt_small b.val (by omega), show (0#32).toInt = 0 by decide, decide_eq_true (by omega)]
      rfl
    have h2 : IntOp.cmpi .sle (BitVec.ofNat 32 b.val) 1023#32 = 1#1 := by
      show BitVec.ofBool (decide ((BitVec.ofNat 32 b.val).toInt ≤ (1023#32).toInt)) = 1#1
      rw [toInt_small _ (by omega), show (1023#32).toInt = 1023 by decide, decide_eq_true (by omega)]
      rfl
    rw [h1, h2]
    rfl
  rw [hg]
  have hf : Finset.fold IntOp.andi 1#1 (fun x : Fin 1 => IntOp.andi (IntOp.cmpi .sge (wrapped (F := Ideal) i (ix2 r x)) 0#32)
      (IntOp.cmpi .sle (wrapped (F := Ideal) i (ix2 r x)) 1023#32)) Finset.univ = 1#1 := by
    rw [show (Finset.univ : Finset (Fin 1)) = {0} from rfl, Finset.fold_singleton, hin]
    rfl
  rw [hf]
  rfl

/-! ## Counts -/

/-- An update lands at entry `k` exactly when its index is `k`. -/
theorem lands (w : IVec S16384x1 32) (r : Fin 16384) (k : Fin 1024) :
    scatter_S1024_S16384x1_S16384_n_0_0_1.resultIdx? (ix1 r) w = some (ix1 k) ↔ (w (ix2 r 0)).toInt = (k.val : Int) := by
  rw [ix1_eq_valueIdx k]
  rw [Routing.resultIdx?_ix1]
  have h1 : scatter_S1024_S16384x1_S16384_n_0_0_1.window (ix1 r) (0 : Fin 1) = 0 := rfl
  have h2 : scatter_S1024_S16384x1_S16384_n_0_0_1.start (ix1 r) w (0 : Fin 1) = (w (ix2 r 0)).toInt := by
    unfold ScatterDims.start
    rw [dif_pos (by decide)]
    refine congrArg (fun i => (w i).toInt) (funext fun a => ?_)
    fin_cases a <;> rfl
  rw [h1, h2]
  simp

/-- Counting along the list of all of `Fin M` counts the set. -/
theorem countP_card {M N : Nat} (h : M = N) (P : Fin N → Prop) [DecidablePred P] :
    (List.finRange M).countP (fun n => decide (P (n.cast h))) = (Finset.univ.filter P).card := by
  subst h
  rw [List.countP_eq_length_filter, ← List.toFinset_card_of_nodup ((List.nodup_finRange M).filter _)]
  refine congrArg Finset.card (Finset.ext fun n => ?_)
  simp

/-- Adding a one for every entry of a list that has `p` counts them. -/
theorem foldl_ones {ι : Type} (l : List ι) (p : ι → Prop) [DecidablePred p] (f : ι → BitVec 32) (hf : ∀ n, f n = 1#32) (a : BitVec 32) (z : Nat)
    (ha : a = BitVec.ofNat 32 z) :
    l.foldl (fun a n => if p n then IntOp.addi a (f n) else a) a = BitVec.ofNat 32 (z + l.countP fun n => decide (p n)) := by
  induction l generalizing a z with
  | nil => simpa using ha
  | cons n l ih =>
    rw [List.foldl_cons, List.countP_cons]
    by_cases hp : p n
    · rw [if_pos hp, ih _ (z + 1) (by rw [ha, hf]; exact (BitVec.ofNat_add z 1).symm), if_pos (decide_eq_true hp)]
      congr 1
      omega
    · rw [if_neg hp, ih _ z ha, if_neg (by simpa using hp), Nat.add_zero]

/-- A scatter of ones into zeros, whose update `r` lands at entry `k` exactly when `P r`, counts at `k` the `r` with `P r`. -/
theorem scatter_card {s si : Shape} {N : Nat} (d : ScatterDims s si (Routing.shape1 N)) (x : s.Idx → BitVec 32) (w : IVec si 32)
    (u : (Routing.shape1 N).Idx → BitVec 32) (k : s.Idx) (hx : x k = 0#32) (hu : ∀ r : Fin N, u (ix1 r) = 1#32) (P : Fin N → Prop) [DecidablePred P]
    (hP : ∀ r : Fin N, d.resultIdx? (ix1 r) w = some k ↔ P r) :
    Host.scatter d IntOp.addi x w u k = BitVec.ofNat 32 (Finset.univ.filter P).card := by
  rw [← Routing.scatterIn_finRange, Routing.scatterIn_at, ← countP_card (Routing.numel1 N) P]
  have e : ∀ n, (Routing.shape1 N).rowMajor.symm n = ix1 (n.cast (Routing.numel1 N)) := fun n => by rw [Routing.symm1, ix1_eq_valueIdx]
  rw [foldl_ones (List.finRange (Routing.shape1 N).numel) (fun n => d.resultIdx? ((Routing.shape1 N).rowMajor.symm n) w = some k)
    (fun n => u ((Routing.shape1 N).rowMajor.symm n)) (fun n => by rw [e, hu]) (x k) 0 hx, Nat.zero_add]
  refine congrArg (BitVec.ofNat 32) (List.countP_congr fun n _ => ?_)
  rw [decide_eq_true_iff, decide_eq_true_iff, e]
  exact hP _

/-- The counts of the indices `g`. -/
theorem counts_eq (i : Arr Ideal S16384 .i32) (g : Fin 16384 → Fin 1024) (h : ∀ r, i (ix1 r) = BitVec.ofNat 32 (g r).val) (k : Fin 1024) :
    counts (F := Ideal) i (ix1 k) = BitVec.ofNat 32 (Finset.univ.filter fun r => g r = k).card := by
  have hm : ∀ r, maxsi (broadcastInDim S16384 ![] bcast_S_S16384 (constantI S_ 32 0#32)) i (ix1 r) = BitVec.ofNat 32 (g r).val := fun r => by
    have hb := (g r).isLt
    pointwise
    rw [h r]
    unfold IntOp.maxsi
    have hs : (BitVec.ofNat 32 (g r).val).slt 0#32 = false := by
      show decide ((BitVec.ofNat 32 (g r).val).toInt < (0#32).toInt) = false
      rw [toInt_small (g r).val (by omega), decide_eq_false (by simp)]
    rw [hs]
    split
    · contradiction
    · rfl
  unfold counts
  refine scatter_card (N := 16384) scatter_S1024_S16384x1_S16384_n_0_0_1 _ _ _ (ix1 k) (by pointwise) (fun r => by pointwise)
    (fun r => g r = k) fun r => ?_
  rw [lands, wrapped_eq _ r (g r).val (by have := (g r).isLt; omega) (hm r), toInt_small _ (by have := (g r).isLt; omega), Fin.ext_iff]
  omega

/-! ## The other steps -/

/-- A distance: the two sums of squares less twice the product. -/
theorem distances_at (z : Arr Ideal S16384x64 .f32) (E : Arr Ideal S1024x64 .f32) (r : Fin 16384) (k : Fin 1024) :
    distances (F := Ideal) z E (ix2 r k) = (∑ x : Fin 64, z (ix2 r x) * z (ix2 r x)) + (∑ x : Fin 64, E (ix2 k x) * E (ix2 k x))
      - Ideal.ofBits .f32 1073741824#32 * ∑ x : Fin 64, z (ix2 r x) * E (ix2 k x) := by
  pointwise [distances]

/-- The mean of the squares of a difference. -/
theorem meanSq_at (u v : Arr Ideal S16384x64 .f32) : meanSq (F := Ideal) u v ix0
    = Ideal.div (∑ r : Fin 16384, ∑ d : Fin 64, (u (ix2 r d) - v (ix2 r d)) * (u (ix2 r d) - v (ix2 r d))) (Ideal.ofBits .f32 1233125376#32) := by
  pointwise [meanSq]

/-- The weighted sum of three numbers. -/
theorem weigh_at (a b e : Arr Ideal S_ .f32) : weigh (F := Ideal) a b e ix0
    = a ix0 + Ideal.ofBits .f32 1048576000#32 * b ix0 + Ideal.ofBits .f32 1036831949#32 * e ix0 := by
  pointwise [weigh]

/-- The exponential of the entropy of the shares. -/
theorem perplexity_at (n : Arr Ideal S1024 .i32) : perplexity (F := Ideal) n ix0
    = Ideal.exp (-∑ k : Fin 1024, Ideal.div (FloatOps.sitofp (F := Ideal) .f32 (n (ix1 k))) (Ideal.ofBits .f32 1182793728#32)
        * Ideal.log (Ideal.div (FloatOps.sitofp (F := Ideal) .f32 (n (ix1 k))) (Ideal.ofBits .f32 1182793728#32) + Ideal.ofBits .f32 786163455#32)) := by
  pointwise [perplexity]
  try rfl

/-- The reconstruction of a row. -/
theorem decode_at (q : Arr Ideal S16384x64 .f32) (V1 : Arr Ideal S64x512 .f32) (c1 : Arr Ideal S512 .f32) (V2 : Arr Ideal S512x1024 .f32)
    (c2 : Arr Ideal S1024 .f32) (V3 : Arr Ideal S1024x512 .f32) (c3 : Arr Ideal S512 .f32) (r : Fin 16384) (j : Fin 512) :
    decode (F := Ideal) q V1 c1 V2 c2 V3 c3 (ix2 r j)
      = (∑ w : Fin 1024, max ((∑ v : Fin 512, max ((∑ u : Fin 64, q (ix2 r u) * V1 (ix2 u v)) + c1 (ix1 v)) 0 * V2 (ix2 v w)) + c2 (ix1 w)) 0
          * V3 (ix2 w j)) + c3 (ix1 j) := by
  pointwise [decode]

end Cert.ReferenceIdeal.RefVal
end
-- ==== Proof.Result.lean ====
/-
  The four arrays that the kernel leaves, in the reference's terms: the choices, the reconstruction, the loss and the
  perplexity. The sums and the tally that the kernel carries from point to point are sums over all rows.
-/
module

public import proofs.«01_k».proof.Proof.Gen.KernelIdeal.Value
public import proofs.«01_k».proof.Proof.Payload
public import proofs.«01_k».proof.Proof.RefVal

@[expose] public section

set_option maxRecDepth 16384

noncomputable section

namespace Cert.KernelIdeal.Result

open Cert.KernelIdeal Cert.KernelIdeal.Gen Cert.KernelIdeal.Blocks Cert.KernelIdeal.Point Cert.KernelIdeal.Payload Cert.KernelIdeal.Value Cert.Arith
open Idealize.ShloMosaic Idealize.ShloMosaic.TcCoe Idealize.SL.Sem
open Cert.ReferenceIdeal.RefRun (Arr encode distances leastAt rowsAt meanSq weigh counts perplexity decode)
open Cert.ReferenceIdeal.RefVal

variable (m : (ℓ : Loc nD τ sig) → Buf (Elt Ideal) ℓ)

/-! ## One point -/

/-- The codebook row nearest to code vector `R`. -/
abbrev near (c : Dev nD) (R : Fin 16384) : Fin 1024 := nearest fun k => distances (F := Ideal) (codes m c) (book m c) (ix2 R k)

/-- A point chooses the nearest codebook row for each of its rows. -/
theorem picks_at (c : Dev nD) (t : Fin cfg0.N) (r : Fin 512) : picks m c t (ix1 r) = BitVec.ofNat 32 (near m c (rowOf t r)).val := by
  refine (pick_at _ _ _ _ r).trans ?_
  simp only [near, distances_at, blk_codes, blk_zz, blk_ee, blk_ebt]

/-- The choices of a point as zeros and ones. -/
theorem marks_at (c : Dev nD) (t : Fin cfg0.N) (r : Fin 512) (k : Fin 1024) :
    marks m c t (ix2 r k) = (if k = near m c (rowOf t r) then 1 else 0 : EReal) := mark_at _ _ _ _ r _ (picks_at m c t r) k

/-- The codebook rows chosen at a point. -/
theorem rows_at (c : Dev nD) (t : Fin cfg0.N) (r : Fin 512) (d : Fin 64) : rows m c t (ix2 r d) = book m c (ix2 (near m c (rowOf t r)) d) :=
  (row_at _ _ _ _ _ r _ (picks_at m c t r) d).trans (blk_book m c t _ d)

/-- The square of the distance of code vector `R` from the codebook row `n`, the code vector taken away. -/
abbrev off (c : Dev nD) (n : Fin 1024) (R : Fin 16384) : EReal :=
  ∑ d : Fin 64, (book m c (ix2 n d) - codes m c (ix2 R d)) * (book m c (ix2 n d) - codes m c (ix2 R d))
/-- The same with the codebook row taken away. -/
abbrev offY (c : Dev nD) (n : Fin 1024) (R : Fin 16384) : EReal :=
  ∑ d : Fin 64, (codes m c (ix2 R d) - book m c (ix2 n d)) * (codes m c (ix2 R d) - book m c (ix2 n d))

/-- The cast before the sums changes nothing. -/
theorem cast_at (z : Vec Ideal S512x64 .f32) (r : Fin 512) (d : Fin 64) : k0_pay5 z (ix2 r d) = z (ix2 r d) := by
  pointwise [k0_pay5]

/-- The first sum's growth at a point. -/
theorem fit_eq (c : Dev nD) (t : Fin cfg0.N) (s : EReal) : fit m c t s = s + ∑ r : Fin 512, off m c (near m c (rowOf t r)) (rowOf t r) := by
  refine (fit_at _ _ s).trans ?_
  simp only [off, rows_at, cast_at, blk_codes]

/-- The second sum's growth at a point, the classes being `g`. -/
theorem sup_eq (c : Dev nD) (g : Fin 16384 → Fin 1024) (hg : ∀ R, m ((c : Thread nD τ).loc main_arg1) (ix1 R) = BitVec.ofNat 32 (g R).val)
    (t : Fin cfg0.N) (s : EReal) : sup m c t s = s + ∑ r : Fin 512, offY m c (g (rowOf t r)) (rowOf t r) := by
  refine (sup_at _ _ _ (fun r => g (rowOf t r)) (fun r => (blk_y m c t r).trans (hg _)) s).trans ?_
  simp only [offY, blk_book, cast_at, blk_codes]

/-! ## All points -/

/-- A sum over the points and their rows is a sum over all rows. -/
theorem sum_rows (f : Fin 16384 → EReal) : ∑ t : Fin cfg0.N, ∑ r : Fin 512, f (rowOf t r) = ∑ R : Fin 16384, f R := by
  refine Fin.sum_mul_add_congr (S := cfg0.N) (fun t r hl => ?_) (by rw [show cfg0.N = 32 from N_0])
  exact congrArg f (Fin.ext (by show 512 * t.val + r.val = t.val * 512 + r.val; omega))

/-- The last point. -/
def lastPt : Fin cfg0.N := ⟨31, lt_of_lt_of_eq (by decide) N_0.symm⟩

/-- The bits of zero. -/
theorem zero_bits : Scalar.ofBits (F := Ideal) .f32 0#32 = (0 : EReal) := by
  show Ideal.ofBits .f32 0#32 = 0
  simp [Ideal.ofBits, Ideal.ieee]

/-- The first sum after the last point. -/
theorem fit_total (c : Dev nD) : (outsAt0 m c lastPt.val lastPt.isLt).2.2.2.2.1 (ix1 0) = ∑ R : Fin 16384, off m c (near m c R) R := by
  have h := Pipeline.eq_sum_fin_of_reset_step_apply_last (M := EReal) (ι := Unit) (fun n hn _ => (outsAt0 m c n hn).2.2.2.2.1 (ix1 0)) 32
    (fun _ => 0) (fun t _ => ∑ r : Fin 512, off m c (near m c (rowOf t r)) (rowOf t r))
    (fun t h0 _ => by
      show (outsAt0 m c t.val t.isLt).2.2.2.2.1 (ix1 0) = _
      rw [sums_first m c t h0, pair_zero, fit_eq, zero_bits])
    (fun t h0 _ => by
      show (outsAt0 m c t.val t.isLt).2.2.2.2.1 (ix1 0) = _
      rw [sums_next m c t h0, pair_zero, fit_eq])
    (by rw [show cfg0.N = 32 from N_0]) lastPt N_0.symm ()
  rw [h, zero_add, sum_rows fun R => off m c (near m c R) R]

/-- The second sum after the last point. -/
theorem sup_total (c : Dev nD) (g : Fin 16384 → Fin 1024) (hg : ∀ R, m ((c : Thread nD τ).loc main_arg1) (ix1 R) = BitVec.ofNat 32 (g R).val) :
    (outsAt0 m c lastPt.val lastPt.isLt).2.2.2.2.1 (ix1 1) = ∑ R : Fin 16384, offY m c (g R) R := by
  have h := Pipeline.eq_sum_fin_of_reset_step_apply_last (M := EReal) (ι := Unit) (fun n hn _ => (outsAt0 m c n hn).2.2.2.2.1 (ix1 1)) 32
    (fun _ => 0) (fun t _ => ∑ r : Fin 512, offY m c (g (rowOf t r)) (rowOf t r))
    (fun t h0 _ => by
      show (outsAt0 m c t.val t.isLt).2.2.2.2.1 (ix1 1) = _
      rw [sums_first m c t h0, pair_one, sup_eq m c g hg, zero_bits])
    (fun t h0 _ => by
      show (outsAt0 m c t.val t.isLt).2.2.2.2.1 (ix1 1) = _
      rw [sums_next m c t h0, pair_one, sup_eq m c g hg])
    (by rw [show cfg0.N = 32 from N_0]) lastPt N_0.symm ()
  rw [h, zero_add, sum_rows fun R => offY m c (g R) R]

/-- The tally after the last point counts the rows by their choice. -/
theorem tally_total (c : Dev nD) (k : Fin 1024) :
    (outsAt0 m c lastPt.val lastPt.isLt).2.2.2.2.2 (ix2 0 k) = ((Finset.univ.filter fun R => near m c R = k).card : EReal) := by
  have h := Pipeline.eq_sum_fin_of_reset_step_apply_last (M := EReal) (ι := Unit) (fun n hn _ => (outsAt0 m c n hn).2.2.2.2.2 (ix2 0 k)) 32
    (fun _ => 0) (fun t _ => ∑ r : Fin 512, if near m c (rowOf t r) = k then 1 else 0)
    (fun t h0 _ => by
      show (outsAt0 m c t.val t.isLt).2.2.2.2.2 (ix2 0 k) = _
      rw [tally_first m c t h0, tally_at, tally_zero]
      simp only [marks_at, eq_comm])
    (fun t h0 _ => by
      show (outsAt0 m c t.val t.isLt).2.2.2.2.2 (ix2 0 k) = _
      rw [tally_next m c t h0, tally_at]
      simp only [marks_at, eq_comm])
    (by rw [show cfg0.N = 32 from N_0]) lastPt N_0.symm ()
  rw [h, zero_add, sum_rows fun R => if near m c R = k then 1 else 0, sum_ones]

/-! ## The four arrays -/

/-- The reference's choices over the kernel's arguments. -/
abbrev chosen (c : Dev nD) : Arr Ideal S16384 .i32 := leastAt (F := Ideal) (distances (F := Ideal) (codes m c) (book m c))

/-- They are the nearest rows. -/
theorem chosen_at (c : Dev nD) (R : Fin 16384) : chosen m c (ix1 R) = BitVec.ofNat 32 (near m c R).val := leastAt_eq _ R

/-- The point that holds row `R`. -/
def ptOf (R : Fin 16384) : Fin cfg0.N := ⟨R.val / 512, lt_of_lt_of_eq (by have := R.isLt; omega) N_0.symm⟩
/-- The row's place there. -/
def inPt (R : Fin 16384) : Fin 512 := ⟨R.val % 512, Nat.mod_lt _ (by decide)⟩
/-- The two together are the row. -/
theorem rowOf_ptOf (R : Fin 16384) : rowOf (ptOf R) (inPt R) = R := Fin.ext (Nat.div_add_mod _ _)

/-- The choices that the kernel leaves. -/
theorem G15_eq (c : Dev nD) : G15 m c = chosen m c := by
  funext i
  obtain ⟨R, rfl⟩ : ∃ R : Fin 16384, i = ix1 R := ⟨i 0, funext fun a => match a with | ⟨0, _⟩ => rfl⟩
  have hp : pt15Of (ix1 R) = (ptOf R).val := by show 1 * (R.val / 512 - 0) = R.val / 512; omega
  have hl : loc15Of (ix1 R) = ix1 (inPt R) := funext fun a => match a with | ⟨0, _⟩ => rfl
  unfold G15
  rw [dif_pos (by rw [hp]; exact (ptOf R).isLt), hl, fold0_congr m c _ _ _ (by rw [Nat.zero_add]; exact (ptOf R).isLt) hp]
  have h := (outsAt0_sweep m c (ptOf R).val (ptOf R).isLt).symm
  rw [h, picks_eq, picks_at, rowOf_ptOf, chosen_at]

/-- The rows that the reference takes by the choices. -/
theorem taken_at (c : Dev nD) (R : Fin 16384) (d : Fin 64) :
    rowsAt (F := Ideal) (book m c) (chosen m c) (ix2 R d) = book m c (ix2 (near m c R) d) := rowsAt_eq _ _ _ _ (chosen_at m c R) d

/-- A code vector plus what takes it to `q`. -/
abbrev through (z q : FVec Ideal S16384x64 .f32) : FVec Ideal S16384x64 .f32 := addf z (subf q z)

/-- The reconstruction that the kernel leaves. -/
theorem G13_eq (c : Dev nD) : G13 m c
    = decode (F := Ideal) (through (codes m c) (rowsAt (F := Ideal) (book m c) (chosen m c)))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) := by
  funext i
  obtain ⟨R, j, rfl⟩ : ∃ (R : Fin 16384) (j : Fin 512), i = ix2 R j :=
    ⟨i 0, i 1, funext fun a => match a with | ⟨0, _⟩ => rfl | ⟨1, _⟩ => rfl⟩
  have hp : pt13Of (ix2 R j) = (ptOf R).val := by
    show 1 * (R.val / 512 - 0) + 1 * (j.val / 512 - 0) = R.val / 512
    have := j.isLt
    omega
  have hl : loc13Of (ix2 R j) = ix2 (inPt R) j :=
    funext fun a => match a with | ⟨0, _⟩ => rfl | ⟨1, _⟩ => Fin.ext (Nat.mod_eq_of_lt j.isLt)
  unfold G13
  rw [dif_pos (by rw [hp]; exact (ptOf R).isLt), hl, fold0_congr m c _ _ _ (by rw [Nat.zero_add]; exact (ptOf R).isLt) hp]
  have h := (outsAt0_sweep m c (ptOf R).val (ptOf R).isLt).symm
  rw [h, recon_eq, recon_at, decode_at]
  simp only [addf_apply, subf_apply, taken_at, cast_at, rows_at, blk_codes, blk_V1, blk_c1, blk_V2, blk_c2, blk_V3, blk_c3, rowOf_ptOf]
  try rfl

/-- The loss that the kernel leaves, the classes being `g`. -/
theorem G12_eq (c : Dev nD) (g : Fin 16384 → Fin 1024) (hg : ∀ R, m ((c : Thread nD τ).loc main_arg1) (ix1 R) = BitVec.ofNat 32 (g R).val) :
    G12 m c = shapeCast S1x1
      (weigh (F := Ideal) (meanSq (F := Ideal) (rowsAt (F := Ideal) (book m c) (chosen m c)) (codes m c))
        (meanSq (F := Ideal) (rowsAt (F := Ideal) (book m c) (chosen m c)) (codes m c))
        (meanSq (F := Ideal) (codes m c) (rowsAt (F := Ideal) (book m c) (m ((c : Thread nD τ).loc main_arg1)))))
      Cert.ReferenceIdeal.Gen.shapeCasts_S_S1x1 := by
  funext i
  obtain rfl : i = ix2 0 0 := funext fun a => match a with | ⟨0, _⟩ => Subsingleton.elim (α := Fin 1) _ _ | ⟨1, _⟩ => Subsingleton.elim (α := Fin 1) _ _
  have hy : ∀ R d, rowsAt (F := Ideal) (book m c) (m ((c : Thread nD τ).loc main_arg1)) (ix2 R d) = book m c (ix2 (g R) d) :=
    fun R d => rowsAt_eq _ _ _ _ (hg R) d
  have h := (outsAt0_sweep m c lastPt.val lastPt.isLt).symm
  have hx : shapeCast S1x1 (weigh (F := Ideal) (meanSq (F := Ideal) (rowsAt (F := Ideal) (book m c) (chosen m c)) (codes m c))
        (meanSq (F := Ideal) (rowsAt (F := Ideal) (book m c) (chosen m c)) (codes m c))
        (meanSq (F := Ideal) (codes m c) (rowsAt (F := Ideal) (book m c) (m ((c : Thread nD τ).loc main_arg1)))))
      Cert.ReferenceIdeal.Gen.shapeCasts_S_S1x1 (ix2 0 0) = weigh (F := Ideal) (meanSq (F := Ideal) (rowsAt (F := Ideal) (book m c) (chosen m c)) (codes m c))
        (meanSq (F := Ideal) (rowsAt (F := Ideal) (book m c) (chosen m c)) (codes m c))
        (meanSq (F := Ideal) (codes m c) (rowsAt (F := Ideal) (book m c) (m ((c : Thread nD τ).loc main_arg1)))) ix0 := by
    pointwise []
  rw [hx, weigh_at, meanSq_at, meanSq_at, G12_last]
  refine (congrFun (congrArg (fun p => p.1) h) _).trans ?_
  rw [loss_last m c lastPt (by rfl), loss_at, fit_total, sup_total m c g hg,
    loss_eq _ _ (Finset.sum_nonneg fun R _ => Finset.sum_nonneg fun d _ => mul_self_nonneg' _)
      (Finset.sum_nonneg fun R _ => Finset.sum_nonneg fun d _ => mul_self_nonneg' _)]
  simp only [off, offY, taken_at, hy]
  try rfl

/-- The reference's perplexity of counts that are the numbers `p`. -/
theorem perplexity_text (n : Arr Ideal S1024 .i32) (p : Fin 1024 → EReal) (hn : ∀ k, FloatOps.sitofp (F := Ideal) .f32 (n (ix1 k)) = p k) :
    shapeCast S1x1 (perplexity (F := Ideal) n) Cert.ReferenceIdeal.Gen.shapeCasts_S_S1x1 (ix2 0 0)
      = Ideal.exp (0 - ∑ k : Fin 1024, p k * Ideal.ofBits .f32 947912704#32 * Ideal.log (p k * Ideal.ofBits .f32 947912704#32 + Ideal.ofBits .f32 786163455#32)) := by
  have hx : shapeCast S1x1 (perplexity (F := Ideal) n) Cert.ReferenceIdeal.Gen.shapeCasts_S_S1x1 (ix2 0 0) = perplexity (F := Ideal) n ix0 := by
    pointwise []
  rw [hx, perplexity_at]
  simp only [hn, share_eq, zero_sub]

/-- A count of less than `2 ^ 31` read as a real number. -/
theorem count_real (n : Arr Ideal S1024 .i32) (k : Fin 1024) (N : Nat) (h : n (ix1 k) = BitVec.ofNat 32 N) (hN : N < 2 ^ 31) :
    FloatOps.sitofp (F := Ideal) .f32 (n (ix1 k)) = (N : EReal) := by
  rw [h, sitofp_small _ hN]

/-- There are less than `2 ^ 31` rows of any kind. -/
theorem card_small (s : Finset (Fin 16384)) : s.card < 2 ^ 31 :=
  lt_of_le_of_lt (Finset.card_le_univ s) (by rw [Fintype.card_fin]; norm_num)

/-- Each count of the reference is the number of rows that choose the codebook row. -/
theorem count_at (c : Dev nD) (k : Fin 1024) : FloatOps.sitofp (F := Ideal) .f32 (counts (F := Ideal) (chosen m c) (ix1 k))
    = ((Finset.univ.filter fun R => near m c R = k).card : EReal) := by
  have h := counts_eq (chosen m c) (near m c) (chosen_at m c) k
  exact count_real _ k _ h (card_small _)

/-- The kernel's perplexity of a tally that holds the numbers `p`. -/
theorem perp_text (v : Vec Ideal S1x1024 .f32) (p : Fin 1024 → EReal) (hv : ∀ k, v (ix2 0 k) = p k) : k0_pay3 v (ix2 0 0)
    = Ideal.exp (0 - ∑ k : Fin 1024, p k * Ideal.ofBits .f32 947912704#32 * Ideal.log (p k * Ideal.ofBits .f32 947912704#32 + Ideal.ofBits .f32 786163455#32)) := by
  rw [perp_at]
  simp only [hv]

/-- The third array is what the last point leaves of it. -/
theorem G14_pt (c : Dev nD) : G14 m c = (outsAt0 m c lastPt.val lastPt.isLt).2.2.1 := by
  have h : outsAt0 m c lastPt.val lastPt.isLt = _ := outsAt0_sweep m c 31 lastPt.isLt
  rw [h, G14_last]

/-- At its one index it is the perplexity of the last point's tally. -/
theorem G14_at (c : Dev nD) : G14 m c (ix2 0 0) = k0_pay3 (outsAt0 m c lastPt.val lastPt.isLt).2.2.2.2.2 (ix2 0 0) :=
  congrFun ((G14_pt m c).trans (perp_last m c lastPt (by rfl))) (ix2 0 0)

/-- The perplexity that the kernel leaves. -/
theorem G14_eq (c : Dev nD) :
    G14 m c = shapeCast S1x1 (perplexity (F := Ideal) (counts (F := Ideal) (chosen m c))) Cert.ReferenceIdeal.Gen.shapeCasts_S_S1x1 := by
  funext i
  obtain rfl : i = ix2 0 0 := funext fun a => match a with | ⟨0, _⟩ => Subsingleton.elim (α := Fin 1) _ _ | ⟨1, _⟩ => Subsingleton.elim (α := Fin 1) _ _
  have h1 := perp_text _ _ (tally_total m c)
  have h2 := perplexity_text _ _ (count_at m c)
  exact (G14_at m c).trans (h1.trans h2.symm)

end Cert.KernelIdeal.Result
end
-- ==== Proof.Classes.lean ====
/-
  The precondition read element by element: each class is an index of the codebook.
-/
module

public import proofs.«01_k».proof.Proof.Result
public import proofs.«01_k».proof.Defs

@[expose] public section

set_option maxRecDepth 16384

noncomputable section

namespace Cert.Pre_y_is_class

open Idealize.ShloMosaic Cert.Pre_y_is_class

/-- The precondition's program states one shape condition. -/
instance facts : Facts where
  bcast_S_S16384 := by decide

/-- A word between zero and 1023 is the word of an index of the codebook. -/
theorem index_of (b : BitVec 32) (h0 : (0#32).sle b = true) (h1 : b.slt 1024#32 = true) : ∃ k : Fin 1024, b = BitVec.ofNat 32 k.val := by
  have hn : b.toNat < 1024 := by
    rw [BitVec.sle_eq_decide, decide_eq_true_eq] at h0
    rw [BitVec.slt_eq_decide, decide_eq_true_eq] at h1
    have e0 : (0#32).toInt = 0 := by decide
    have e1 : (1024#32).toInt = 1024 := by decide
    rw [e0] at h0
    rw [e1] at h1
    rw [BitVec.toInt_eq_toNat_cond] at h0 h1
    have := b.isLt
    split at h0 <;> split at h1 <;> omega
  exact ⟨⟨b.toNat, hn⟩, by simp⟩

/-- Where the precondition's program gives one, the class is the word of an index. -/
theorem class_of (a0 : FVec Ideal S16384x512 .f32) (y : IVec S16384 32) (a2 : FVec Ideal S512x1024 .f32) (a3 : FVec Ideal S1024 .f32)
    (a4 : FVec Ideal S1024x512 .f32) (a5 : FVec Ideal S512 .f32) (a6 : FVec Ideal S512x64 .f32) (a7 : FVec Ideal S64 .f32)
    (a8 : FVec Ideal S1024x64 .f32) (a9 : FVec Ideal S64x512 .f32) (a10 : FVec Ideal S512 .f32) (a11 : FVec Ideal S512x1024 .f32)
    (a12 : FVec Ideal S1024 .f32) (a13 : FVec Ideal S1024x512 .f32) (a14 : FVec Ideal S512 .f32)
    (h : fn (F := Ideal) a0 y a2 a3 a4 a5 a6 a7 a8 a9 a10 a11 a12 a13 a14 = fun _ => 1#1) (R : Fin 16384) :
    ∃ k : Fin 1024, y (ix1 R) = BitVec.ofNat 32 k.val := by
  have hR := congrFun h (ix1 R)
  have e : fn (F := Ideal) a0 y a2 a3 a4 a5 a6 a7 a8 a9 a10 a11 a12 a13 a14 (ix1 R)
      = BitVec.ofBool ((0#32).sle (y (ix1 R))) &&& BitVec.ofBool ((y (ix1 R)).slt 1024#32) := by
    pointwise [fn]
    rfl
  rw [e] at hR
  refine index_of _ ?_ ?_
  · revert hR
    cases (0#32).sle (y (ix1 R)) <;> cases (y (ix1 R)).slt 1024#32 <;> decide
  · revert hR
    cases (0#32).sle (y (ix1 R)) <;> cases (y (ix1 R)).slt 1024#32 <;> decide

end Cert.Pre_y_is_class
end
-- ==== Proof.Same.lean ====
/-
  The reference's run: its arguments are kept, and over memories that agree with the kernel's on the arguments it leaves
  the kernel's four arrays.
-/
module

public import proofs.«01_k».proof.Proof.Classes

@[expose] public section

set_option maxRecDepth 16384

noncomputable section

namespace Cert.ReferenceIdeal.Same

open Cert.ReferenceIdeal Cert.ReferenceIdeal.Gen Idealize.ShloMosaic Idealize.ShloMosaic.TcCoe Idealize.SL.Sem
open Idealize.ShloMosaic.StableHlo
open Cert.ReferenceIdeal.RefRun

/-- An argument is kept. -/
theorem kept (m : (ℓ : Loc nD τ sig) → Buf (Elt Ideal) ℓ) (c : Dev nD) (b : Ref sig .tc)
    (h : b ∉ encBufs ++ distBufs ++ nearBufs ++ pickBufs ++ fitBufs ++ clsBufs ++ lossBufs ++ perpBufs ++ decBufs) :
    after ops (launchContents m c) (Proc.devRef .tc b) = m ((c.tc : Thread nD τ).loc b) := ops_keep _ b h

/-- The reference runs, its arguments end unchanged, and no counter is left. -/
theorem frame : Cert.quiescent_ReferenceIdeal := fun m g _ =>
  (θ_run defs _ _).mono (fun r h => ⟨fun c => ⟨
      (h c main_arg0).trans (kept m c main_arg0 (by decide)),
      (h c main_arg1).trans (kept m c main_arg1 (by decide)),
      (h c main_arg2).trans (kept m c main_arg2 (by decide)),
      (h c main_arg3).trans (kept m c main_arg3 (by decide)),
      (h c main_arg4).trans (kept m c main_arg4 (by decide)),
      (h c main_arg5).trans (kept m c main_arg5 (by decide)),
      (h c main_arg6).trans (kept m c main_arg6 (by decide)),
      (h c main_arg7).trans (kept m c main_arg7 (by decide)),
      (h c main_arg8).trans (kept m c main_arg8 (by decide)),
      (h c main_arg9).trans (kept m c main_arg9 (by decide)),
      (h c main_arg10).trans (kept m c main_arg10 (by decide)),
      (h c main_arg11).trans (kept m c main_arg11 (by decide)),
      (h c main_arg12).trans (kept m c main_arg12 (by decide)),
      (h c main_arg13).trans (kept m c main_arg13 (by decide)),
      (h c main_arg14).trans (kept m c main_arg14 (by decide))⟩,
    sem_eq_zero_of_no_sems (by decide) r.2⟩) (run m g)

variable (V : Valuation τ sig (Elt Ideal))
  (x : Arr Ideal S16384x512 .f32) (y : Arr Ideal S16384 .i32) (W1 : Arr Ideal S512x1024 .f32) (b1 : Arr Ideal S1024 .f32)
  (W2 : Arr Ideal S1024x512 .f32) (b2 : Arr Ideal S512 .f32) (W3 : Arr Ideal S512x64 .f32) (b3 : Arr Ideal S64 .f32)
  (E : Arr Ideal S1024x64 .f32) (V1 : Arr Ideal S64x512 .f32) (c1 : Arr Ideal S512 .f32) (V2 : Arr Ideal S512x1024 .f32)
  (c2 : Arr Ideal S1024 .f32) (V3 : Arr Ideal S1024x512 .f32) (c3 : Arr Ideal S512 .f32)

/-- The contents `V` hold the fifteen arrays as arguments. -/
structure Holds : Prop where
  h0 : V (Proc.devRef .tc main_arg0) = x
  h1 : V (Proc.devRef .tc main_arg1) = y
  h2 : V (Proc.devRef .tc main_arg2) = W1
  h3 : V (Proc.devRef .tc main_arg3) = b1
  h4 : V (Proc.devRef .tc main_arg4) = W2
  h5 : V (Proc.devRef .tc main_arg5) = b2
  h6 : V (Proc.devRef .tc main_arg6) = W3
  h7 : V (Proc.devRef .tc main_arg7) = b3
  h8 : V (Proc.devRef .tc main_arg8) = E
  h9 : V (Proc.devRef .tc main_arg9) = V1
  h10 : V (Proc.devRef .tc main_arg10) = c1
  h11 : V (Proc.devRef .tc main_arg11) = V2
  h12 : V (Proc.devRef .tc main_arg12) = c2
  h13 : V (Proc.devRef .tc main_arg13) = V3
  h14 : V (Proc.devRef .tc main_arg14) = c3

variable {V x y W1 b1 W2 b2 W3 b3 E V1 c1 V2 c2 V3 c3}

/-- The line's loss over the arguments. -/
theorem loss_of (h : Holds V x y W1 b1 W2 b2 W3 b3 E V1 c1 V2 c2 V3 c3) : after ops V (Proc.devRef .tc main_v83)
    = shapeCast S1x1 (weigh (F := Ideal) (meanSq (F := Ideal) (rowsAt (F := Ideal) E (leastAt (F := Ideal) (distances (F := Ideal) (encode (F := Ideal) x W1 b1 W2 b2 W3 b3) E))) (encode (F := Ideal) x W1 b1 W2 b2 W3 b3))
        (meanSq (F := Ideal) (rowsAt (F := Ideal) E (leastAt (F := Ideal) (distances (F := Ideal) (encode (F := Ideal) x W1 b1 W2 b2 W3 b3) E))) (encode (F := Ideal) x W1 b1 W2 b2 W3 b3))
        (meanSq (F := Ideal) (encode (F := Ideal) x W1 b1 W2 b2 W3 b3) (rowsAt (F := Ideal) E y))) shapeCasts_S_S1x1 := by
  obtain ⟨rfl, rfl, rfl, rfl, rfl, rfl, rfl, rfl, rfl, rfl, rfl, rfl, rfl, rfl, rfl⟩ := h
  exact ops_v83 V

/-- The line's reconstruction over the arguments. -/
theorem recon_of (h : Holds V x y W1 b1 W2 b2 W3 b3 E V1 c1 V2 c2 V3 c3) : after ops V (Proc.devRef .tc main_v82)
    = decode (F := Ideal) (Cert.KernelIdeal.Result.through (encode (F := Ideal) x W1 b1 W2 b2 W3 b3)
        (rowsAt (F := Ideal) E (leastAt (F := Ideal) (distances (F := Ideal) (encode (F := Ideal) x W1 b1 W2 b2 W3 b3) E)))) V1 c1 V2 c2 V3 c3 := by
  obtain ⟨rfl, rfl, rfl, rfl, rfl, rfl, rfl, rfl, rfl, rfl, rfl, rfl, rfl, rfl, rfl⟩ := h
  exact ops_v82 V

/-- The line's perplexity over the arguments. -/
theorem perp_of (h : Holds V x y W1 b1 W2 b2 W3 b3 E V1 c1 V2 c2 V3 c3) : after ops V (Proc.devRef .tc main_v84)
    = shapeCast S1x1 (perplexity (F := Ideal) (counts (F := Ideal) (leastAt (F := Ideal) (distances (F := Ideal) (encode (F := Ideal) x W1 b1 W2 b2 W3 b3) E)))) shapeCasts_S_S1x1 := by
  obtain ⟨rfl, rfl, rfl, rfl, rfl, rfl, rfl, rfl, rfl, rfl, rfl, rfl, rfl, rfl, rfl⟩ := h
  exact ops_v84 V

/-- The line's choices over the arguments. -/
theorem choice_of (h : Holds V x y W1 b1 W2 b2 W3 b3 E V1 c1 V2 c2 V3 c3) : after ops V (Proc.devRef .tc main_v28)
    = leastAt (F := Ideal) (distances (F := Ideal) (encode (F := Ideal) x W1 b1 W2 b2 W3 b3) E) := by
  obtain ⟨rfl, rfl, rfl, rfl, rfl, rfl, rfl, rfl, rfl, rfl, rfl, rfl, rfl, rfl, rfl⟩ := h
  exact ops_v28 V

end Cert.ReferenceIdeal.Same
end
-- ==== Proof.lean ====
/-
  The five claims, put together: the two kernel programs' frames are the generated ones, the reference's frame and its
  results come from its run, and the kernel's four arrays are the reference's by `Proof/Result.lean`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Same

@[expose] public section

set_option maxRecDepth 16384

noncomputable section

namespace Cert.Proof

open Idealize.ShloMosaic Idealize.SL.Sem Cert.ReferenceIdeal.Same Cert.KernelIdeal.Result

/-- Under the precondition the kernel and the reference end with equal results. -/
theorem algebraic : Cert.algebraic_KernelIdeal_ReferenceIdeal_pre_y_is_class := by
  intro m g m' g' hpre hagree
  let arg (c : Dev Cert.KernelIdeal.nD) (b : Ref Cert.KernelIdeal.sig .tc) := m ((c.tc : Thread Cert.KernelIdeal.nD Cert.KernelIdeal.τ).loc b)
  have hold : ∀ c, Holds (StableHlo.launchContents m' c) (arg c Cert.KernelIdeal.main_arg0) (arg c Cert.KernelIdeal.main_arg1) (arg c Cert.KernelIdeal.main_arg2) (arg c Cert.KernelIdeal.main_arg3)
       (arg c Cert.KernelIdeal.main_arg4) (arg c Cert.KernelIdeal.main_arg5) (arg c Cert.KernelIdeal.main_arg6) (arg c Cert.KernelIdeal.main_arg7) (arg c Cert.KernelIdeal.main_arg8)
       (arg c Cert.KernelIdeal.main_arg9) (arg c Cert.KernelIdeal.main_arg10) (arg c Cert.KernelIdeal.main_arg11) (arg c Cert.KernelIdeal.main_arg12) (arg c Cert.KernelIdeal.main_arg13) (arg c Cert.KernelIdeal.main_arg14) := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2⟩
  refine ⟨fun c => Cert.KernelIdeal.Value.G12 m c, fun c => Cert.KernelIdeal.Value.G13 m c, fun c => Cert.KernelIdeal.Value.G14 m c,
    fun c => Cert.KernelIdeal.Value.G15 m c, Cert.KernelIdeal.Value.run m g, ?_⟩
  refine (θ_run Cert.ReferenceIdeal.defs _ _).mono (fun r h c => ?_) (Cert.ReferenceIdeal.RefRun.run m' g')
  choose cls hcls using Cert.Pre_y_is_class.class_of _ _ _ _ _ _ _ _ _ _ _ _ _ _ _ (hpre c)
  exact ⟨(h c Cert.ReferenceIdeal.main_v83).trans ((loss_of (hold c)).trans (G12_eq m c cls hcls).symm),
      (h c Cert.ReferenceIdeal.main_v82).trans ((recon_of (hold c)).trans (G13_eq m c).symm),
      (h c Cert.ReferenceIdeal.main_v84).trans ((perp_of (hold c)).trans (G14_eq m c).symm),
      (h c Cert.ReferenceIdeal.main_v28).trans ((choice_of (hold c)).trans (G15_eq m c).symm),
      (h c Cert.ReferenceIdeal.main_arg0).trans (kept m' c Cert.ReferenceIdeal.main_arg0 (by decide)),
      (h c Cert.ReferenceIdeal.main_arg1).trans (kept m' c Cert.ReferenceIdeal.main_arg1 (by decide)),
      (h c Cert.ReferenceIdeal.main_arg2).trans (kept m' c Cert.ReferenceIdeal.main_arg2 (by decide)),
      (h c Cert.ReferenceIdeal.main_arg3).trans (kept m' c Cert.ReferenceIdeal.main_arg3 (by decide)),
      (h c Cert.ReferenceIdeal.main_arg4).trans (kept m' c Cert.ReferenceIdeal.main_arg4 (by decide)),
      (h c Cert.ReferenceIdeal.main_arg5).trans (kept m' c Cert.ReferenceIdeal.main_arg5 (by decide)),
      (h c Cert.ReferenceIdeal.main_arg6).trans (kept m' c Cert.ReferenceIdeal.main_arg6 (by decide)),
      (h c Cert.ReferenceIdeal.main_arg7).trans (kept m' c Cert.ReferenceIdeal.main_arg7 (by decide)),
      (h c Cert.ReferenceIdeal.main_arg8).trans (kept m' c Cert.ReferenceIdeal.main_arg8 (by decide)),
      (h c Cert.ReferenceIdeal.main_arg9).trans (kept m' c Cert.ReferenceIdeal.main_arg9 (by decide)),
      (h c Cert.ReferenceIdeal.main_arg10).trans (kept m' c Cert.ReferenceIdeal.main_arg10 (by decide)),
      (h c Cert.ReferenceIdeal.main_arg11).trans (kept m' c Cert.ReferenceIdeal.main_arg11 (by decide)),
      (h c Cert.ReferenceIdeal.main_arg12).trans (kept m' c Cert.ReferenceIdeal.main_arg12 (by decide)),
      (h c Cert.ReferenceIdeal.main_arg13).trans (kept m' c Cert.ReferenceIdeal.main_arg13 (by decide)),
      (h c Cert.ReferenceIdeal.main_arg14).trans (kept m' c Cert.ReferenceIdeal.main_arg14 (by decide))⟩

/-- All claims of the certificate. -/
theorem claim : Cert.Claim :=
  ⟨Cert.Kernel.Gen.facts, Cert.KernelIdeal.Gen.facts, Cert.ReferenceIdeal.Gen.facts, Cert.Pre_y_is_class.facts,
    fun m g _ => Cert.Kernel.Gen.frame m g, fun m g _ => Cert.KernelIdeal.Gen.frame m g, fun m g _ => Cert.KernelIdeal.Gen.frame m g,
    frame, fun m g _ => frame m g trivial, trivial, algebraic⟩

end Cert.Proof

end
